-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S2x512x2048 : Shape := ⟨3, ![2, 512, 2048]⟩
abbrev S512x2048 : Shape := ⟨2, ![512, 2048]⟩
abbrev S4x2 : Shape := ⟨2, ![4, 2]⟩
abbrev S4 : Shape := ⟨1, ![4]⟩
abbrev S_ : Shape := ⟨0, ![]⟩
abbrev S512x512 : Shape := ⟨2, ![512, 512]⟩
abbrev S1x512x2048 : Shape := ⟨3, ![1, 512, 2048]⟩
abbrev S1x1 : Shape := ⟨2, ![1, 1]⟩

abbrev nBuf : Space → Nat
  | .hbm => 5
  | .vmem => 10
  | .smem => 2
  | _ => 0

abbrev bufTy : (tb : Table) → Fin (tcTables nBuf tb) → BufTy
  | .hbm, ⟨0, _⟩ => ⟨S4096x512, .fp8e4m3⟩
  | .hbm, ⟨1, _⟩ => ⟨S512x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x512, .fp8e4m3⟩
  | .local _ .vmem, ⟨1, _⟩ => ⟨S512x8192, .fp8e4m3⟩
  | .local _ .vmem, ⟨2, _⟩ => ⟨S2x512x2048, .bf16⟩
  | .local _ .vmem, ⟨3, _⟩ => ⟨S2x512x2048, .bf16⟩
  | .local _ .vmem, ⟨4, _⟩ => ⟨S2x512x2048, .bf16⟩
  | .local _ .vmem, ⟨5, _⟩ => ⟨S2x512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 5 24 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_20 : BitVec 32 := 1#32
  let v39 : BitVec 32 := Scalar.muli v34 c1_i32_20
  let v40 : BitVec 32 := Scalar.addi c0_i32_21 v39
  v40.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_23 : BitVec 32 := 1#32
  let v41 : BitVec 32 := Scalar.muli v19 c1_i32_23
  let v42 : BitVec 32 := Scalar.addi c0_i32_24 v41
  v42.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32 : BitVec 32 := 512#32
  let v43 : BitVec 32 := Scalar.muli v5 c512_i32
  let c0_i32_25 : BitVec 32 := 0#32
  let v44 : BitVec 32 := Scalar.addi v43 c0_i32_25
  let v45 : Index := Scalar.indexCast v44
  let c0_26 : Index := 0#32
  ![v45.toNat, 0]
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_62 : BitVec 32 := 1#32
  let v99 : BitVec 32 := Scalar.muli v19 c1_i32_62
  let v100 : BitVec 32 := Scalar.addi c0_i32_63 v99
  v100.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_74 : BitVec 32 := 1#32
  let v109 : BitVec 32 := Scalar.muli v19 c1_i32_74
  let v110 : BitVec 32 := Scalar.addi c0_i32_75 v109
  v110.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_86 : BitVec 32 := 1#32
  let v119 : BitVec 32 := Scalar.muli v34 c1_i32_86
  let v120 : BitVec 32 := Scalar.addi c0_i32_87 v119
  v120.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_97 : BitVec 32 := 1#32
  let v129 : BitVec 32 := Scalar.muli v34 c1_i32_97
  let v130 : BitVec 32 := Scalar.addi c0_i32_98 v129
  v130.toNat
def k0_off2 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v139 : BitVec 32 := Scalar.subi v5 c0_i32_103
  let c1_i32_104 : BitVec 32 := 1#32
  let v140 : BitVec 32 := Scalar.subi v139 c1_i32_104
  let c8_i32_105 : BitVec 32 := 8#32
  let v141 : BitVec 32 := Scalar.addi v140 c8_i32_105
  let c8_i32_106 : BitVec 32 := 8#32
  let c0_i32_107 : BitVec 32 := 0#32
  let v142 : BitVec 1 := Scalar.cmpi .eq c8_i32_106 c0_i32_107
  let c1_i32_108 : BitVec 32 := 1#32
  let v143 : BitVec 32 := Scalar.select v142 c1_i32_108 c8_i32_106
  let v144 : BitVec 32 := Scalar.remsi v141 v143
  let c0_i32_110 : BitVec 32 := 0#32
  let v146 : BitVec 1 := Scalar.cmpi .slt v144 c0_i32_110
  let c0_i32_111 : BitVec 32 := 0#32
  let v147 : BitVec 1 := Scalar.cmpi .slt v143 c0_i32_111
  let v148 : BitVec 1 := Scalar.xori v146 v147
  let c0_i32_109 : BitVec 32 := 0#32
  let v145 : BitVec 1 := Scalar.cmpi .ne v144 c0_i32_109
  let v149 : BitVec 1 := Scalar.andi v148 v145
  let v150 : BitVec 32 := Scalar.addi v144 v143
  let v151 : BitVec 32 := Scalar.select v149 v150 v144
  let c512_i32_120 : BitVec 32 := 512#32
  let v164 : BitVec 32 := Scalar.muli v151 c512_i32_120
  let c0_i32_121 : BitVec 32 := 0#32
  let v165 : BitVec 32 := Scalar.addi v164 c0_i32_121
  let v166 : Index := Scalar.indexCast v165
  let c0_122 : Index := 0#32
  ![v166.toNat, 0]
def k0_off3 (d0 : Dev nD) (c0_i32_112 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v152 : BitVec 32 := Scalar.addi v5 c0_i32_112
  let c1_i32_113 : BitVec 32 := 1#32
  let v153 : BitVec 32 := Scalar.addi v152 c1_i32_113
  let c8_i32_114 : BitVec 32 := 8#32
  let c0_i32_115 : BitVec 32 := 0#32
  let v154 : BitVec 1 := Scalar.cmpi .eq c8_i32_114 c0_i32_115
  let c1_i32_116 : BitVec 32 := 1#32
  let v155 : BitVec 32 := Scalar.select v154 c1_i32_116 c8_i32_114
  let v156 : BitVec 32 := Scalar.remsi v153 v155
  let c0_i32_118 : BitVec 32 := 0#32
  let v158 : BitVec 1 := Scalar.cmpi .slt v156 c0_i32_118
  let c0_i32_119 : BitVec 32 := 0#32
  let v159 : BitVec 1 := Scalar.cmpi .slt v155 c0_i32_119
  let v160 : BitVec 1 := Scalar.xori v158 v159
  let c0_i32_117 : BitVec 32 := 0#32
  let v157 : BitVec 1 := Scalar.cmpi .ne v156 c0_i32_117
  let v161 : BitVec 1 := Scalar.andi v160 v157
  let v162 : BitVec 32 := Scalar.addi v156 v155
  let v163 : BitVec 32 := Scalar.select v161 v162 v156
  let c512_i32_136 : BitVec 32 := 512#32
  let v190 : BitVec 32 := Scalar.muli v163 c512_i32_136
  let c0_i32_137 : BitVec 32 := 0#32
  let v191 : BitVec 32 := Scalar.addi v190 c0_i32_137
  let v192 : Index := Scalar.indexCast v191
  let c0_138 : Index := 0#32
  ![v192.toNat, 0]
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_198 : BitVec 32 := 1#32
  let v242 : BitVec 32 := Scalar.muli v34 c1_i32_198
  let v243 : BitVec 32 := Scalar.addi c0_i32_199 v242
  v243.toNat
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_202 : BitVec 32 := 1#32
  let v246 : BitVec 32 := Scalar.muli v34 c1_i32_202
  let v247 : BitVec 32 := Scalar.addi c0_i32_203 v246
  v247.toNat
def k0_dev9 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_206 : BitVec 32 := 1#32
  let v250 : BitVec 32 := Scalar.muli v19 c1_i32_206
  let v251 : BitVec 32 := Scalar.addi c0_i32_207 v250
  v251.toNat
def k0_dev10 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_210 : BitVec 32 := 1#32
  let v254 : BitVec 32 := Scalar.muli v19 c1_i32_210
  let v255 : BitVec 32 := Scalar.addi c0_i32_211 v254
  v255.toNat
def k0_dev11 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_300 : BitVec 32 := 1#32
  let v326 : BitVec 32 := Scalar.muli v19 c1_i32_300
  let v327 : BitVec 32 := Scalar.addi c0_i32_301 v326
  v327.toNat
def k0_dev12 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_315 : BitVec 32 := 1#32
  let v338 : BitVec 32 := Scalar.muli v19 c1_i32_315
  let v339 : BitVec 32 := Scalar.addi c0_i32_316 v338
  v339.toNat
def k0_dev13 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_330 : BitVec 32 := 1#32
  let v350 : BitVec 32 := Scalar.muli v34 c1_i32_330
  let v351 : BitVec 32 := Scalar.addi c0_i32_331 v350
  v351.toNat
def k0_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_345 : BitVec 32 := 1#32
  let v362 : BitVec 32 := Scalar.muli v34 c1_i32_345
  let v363 : BitVec 32 := Scalar.addi c0_i32_346 v362
  v363.toNat
def k0_dev15 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_446 : BitVec 32 := 1#32
  let v475 : BitVec 32 := Scalar.muli v34 c1_i32_446
  let v476 : BitVec 32 := Scalar.addi c0_i32_447 v475
  v476.toNat
def k0_dev16 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_450 : BitVec 32 := 1#32
  let v479 : BitVec 32 := Scalar.muli v34 c1_i32_450
  let v480 : BitVec 32 := Scalar.addi c0_i32_451 v479
  v480.toNat
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_454 : BitVec 32 := 1#32
  let v483 : BitVec 32 := Scalar.muli v19 c1_i32_454
  let v484 : BitVec 32 := Scalar.addi c0_i32_455 v483
  v484.toNat
def k0_dev18 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_458 : BitVec 32 := 1#32
  let v487 : BitVec 32 := Scalar.muli v19 c1_i32_458
  let v488 : BitVec 32 := Scalar.addi c0_i32_459 v487
  v488.toNat
def k0_dev19 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_549 : BitVec 32 := 1#32
  let v559 : BitVec 32 := Scalar.muli v19 c1_i32_549
  let v560 : BitVec 32 := Scalar.addi c0_i32_550 v559
  v560.toNat
def k0_dev20 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_564 : BitVec 32 := 1#32
  let v571 : BitVec 32 := Scalar.muli v19 c1_i32_564
  let v572 : BitVec 32 := Scalar.addi c0_i32_565 v571
  v572.toNat
def k0_dev21 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_579 : BitVec 32 := 1#32
  let v583 : BitVec 32 := Scalar.muli v34 c1_i32_579
  let v584 : BitVec 32 := Scalar.addi c0_i32_580 v583
  v584.toNat
def k0_dev22 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_594 : BitVec 32 := 1#32
  let v595 : BitVec 32 := Scalar.muli v34 c1_i32_594
  let v596 : BitVec 32 := Scalar.addi c0_i32_595 v595
  v596.toNat
def k0_dev23 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_695 : BitVec 32 := 1#32
  let v708 : BitVec 32 := Scalar.muli v34 c1_i32_695
  let v709 : BitVec 32 := Scalar.addi c0_i32_696 v708
  v709.toNat
def k0_dev24 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_699 : BitVec 32 := 1#32
  let v712 : BitVec 32 := Scalar.muli v34 c1_i32_699
  let v713 : BitVec 32 := Scalar.addi c0_i32_700 v712
  v713.toNat
def k0_dev25 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_703 : BitVec 32 := 1#32
  let v716 : BitVec 32 := Scalar.muli v19 c1_i32_703
  let v717 : BitVec 32 := Scalar.addi c0_i32_704 v716
  v717.toNat
def k0_dev26 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_707 : BitVec 32 := 1#32
  let v720 : BitVec 32 := Scalar.muli v19 c1_i32_707
  let v721 : BitVec 32 := Scalar.addi c0_i32_708 v720
  v721.toNat
def k0_dev27 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_798 : BitVec 32 := 1#32
  let v792 : BitVec 32 := Scalar.muli v19 c1_i32_798
  let v793 : BitVec 32 := Scalar.addi c0_i32_799 v792
  v793.toNat
def k0_dev28 (d0 : Dev nD) : Nat :=
  let c0_i32_814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_813 : BitVec 32 := 1#32
  let v804 : BitVec 32 := Scalar.muli v19 c1_i32_813
  let v805 : BitVec 32 := Scalar.addi c0_i32_814 v804
  v805.toNat
def k0_dev29 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_828 : BitVec 32 := 1#32
  let v816 : BitVec 32 := Scalar.muli v34 c1_i32_828
  let v817 : BitVec 32 := Scalar.addi c0_i32_829 v816
  v817.toNat
def k0_dev30 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_843 : BitVec 32 := 1#32
  let v828 : BitVec 32 := Scalar.muli v34 c1_i32_843
  let v829 : BitVec 32 := Scalar.addi c0_i32_844 v828
  v829.toNat
def k0_dev31 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_944 : BitVec 32 := 1#32
  let v941 : BitVec 32 := Scalar.muli v34 c1_i32_944
  let v942 : BitVec 32 := Scalar.addi c0_i32_945 v941
  v942.toNat
def k0_dev32 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_948 : BitVec 32 := 1#32
  let v945 : BitVec 32 := Scalar.muli v34 c1_i32_948
  let v946 : BitVec 32 := Scalar.addi c0_i32_949 v945
  v946.toNat
def k0_dev33 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_952 : BitVec 32 := 1#32
  let v949 : BitVec 32 := Scalar.muli v19 c1_i32_952
  let v950 : BitVec 32 := Scalar.addi c0_i32_953 v949
  v950.toNat
def k0_dev34 (d0 : Dev nD) : Nat :=
  let c0_i32_957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_956 : BitVec 32 := 1#32
  let v953 : BitVec 32 := Scalar.muli v19 c1_i32_956
  let v954 : BitVec 32 := Scalar.addi c0_i32_957 v953
  v954.toNat
def k0_dev35 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1047 : BitVec 32 := 1#32
  let v1025 : BitVec 32 := Scalar.muli v19 c1_i32_1047
  let v1026 : BitVec 32 := Scalar.addi c0_i32_1048 v1025
  v1026.toNat
def k0_dev36 (d0 : Dev nD) : Nat :=
  let c0_i32_1063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1062 : BitVec 32 := 1#32
  let v1037 : BitVec 32 := Scalar.muli v19 c1_i32_1062
  let v1038 : BitVec 32 := Scalar.addi c0_i32_1063 v1037
  v1038.toNat
def k0_dev37 (d0 : Dev nD) : Nat :=
  let c0_i32_1078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1077 : BitVec 32 := 1#32
  let v1049 : BitVec 32 := Scalar.muli v34 c1_i32_1077
  let v1050 : BitVec 32 := Scalar.addi c0_i32_1078 v1049
  v1050.toNat
def k0_dev38 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1092 : BitVec 32 := 1#32
  let v1061 : BitVec 32 := Scalar.muli v34 c1_i32_1092
  let v1062 : BitVec 32 := Scalar.addi c0_i32_1093 v1061
  v1062.toNat
def k0_dev39 (d0 : Dev nD) : Nat :=
  let c0_i32_1194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1193 : BitVec 32 := 1#32
  let v1174 : BitVec 32 := Scalar.muli v34 c1_i32_1193
  let v1175 : BitVec 32 := Scalar.addi c0_i32_1194 v1174
  v1175.toNat
def k0_dev40 (d0 : Dev nD) : Nat :=
  let c0_i32_1198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1197 : BitVec 32 := 1#32
  let v1178 : BitVec 32 := Scalar.muli v34 c1_i32_1197
  let v1179 : BitVec 32 := Scalar.addi c0_i32_1198 v1178
  v1179.toNat
def k0_dev41 (d0 : Dev nD) : Nat :=
  let c0_i32_1202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1201 : BitVec 32 := 1#32
  let v1182 : BitVec 32 := Scalar.muli v19 c1_i32_1201
  let v1183 : BitVec 32 := Scalar.addi c0_i32_1202 v1182
  v1183.toNat
def k0_dev42 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1205 : BitVec 32 := 1#32
  let v1186 : BitVec 32 := Scalar.muli v19 c1_i32_1205
  let v1187 : BitVec 32 := Scalar.addi c0_i32_1206 v1186
  v1187.toNat
def k0_dev43 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1296 : BitVec 32 := 1#32
  let v1258 : BitVec 32 := Scalar.muli v19 c1_i32_1296
  let v1259 : BitVec 32 := Scalar.addi c0_i32_1297 v1258
  v1259.toNat
def k0_dev44 (d0 : Dev nD) : Nat :=
  let c0_i32_1312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1311 : BitVec 32 := 1#32
  let v1270 : BitVec 32 := Scalar.muli v19 c1_i32_1311
  let v1271 : BitVec 32 := Scalar.addi c0_i32_1312 v1270
  v1271.toNat
def k0_dev45 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1326 : BitVec 32 := 1#32
  let v1282 : BitVec 32 := Scalar.muli v34 c1_i32_1326
  let v1283 : BitVec 32 := Scalar.addi c0_i32_1327 v1282
  v1283.toNat
def k0_dev46 (d0 : Dev nD) : Nat :=
  let c0_i32_1342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1341 : BitVec 32 := 1#32
  let v1294 : BitVec 32 := Scalar.muli v34 c1_i32_1341
  let v1295 : BitVec 32 := Scalar.addi c0_i32_1342 v1294
  v1295.toNat
def k0_dev47 (d0 : Dev nD) : Nat :=
  let c0_i32_1442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1441 : BitVec 32 := 1#32
  let v1407 : BitVec 32 := Scalar.muli v34 c1_i32_1441
  let v1408 : BitVec 32 := Scalar.addi c0_i32_1442 v1407
  v1408.toNat
def k0_dev48 (d0 : Dev nD) : Nat :=
  let c0_i32_1446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1445 : BitVec 32 := 1#32
  let v1411 : BitVec 32 := Scalar.muli v34 c1_i32_1445
  let v1412 : BitVec 32 := Scalar.addi c0_i32_1446 v1411
  v1412.toNat
def k0_dev49 (d0 : Dev nD) : Nat :=
  let c0_i32_1450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1449 : BitVec 32 := 1#32
  let v1415 : BitVec 32 := Scalar.muli v19 c1_i32_1449
  let v1416 : BitVec 32 := Scalar.addi c0_i32_1450 v1415
  v1416.toNat
def k0_dev50 (d0 : Dev nD) : Nat :=
  let c0_i32_1454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1453 : BitVec 32 := 1#32
  let v1419 : BitVec 32 := Scalar.muli v19 c1_i32_1453
  let v1420 : BitVec 32 := Scalar.addi c0_i32_1454 v1419
  v1420.toNat
def k0_dev51 (d0 : Dev nD) : Nat :=
  let c0_i32_1545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1544 : BitVec 32 := 1#32
  let v1491 : BitVec 32 := Scalar.muli v19 c1_i32_1544
  let v1492 : BitVec 32 := Scalar.addi c0_i32_1545 v1491
  v1492.toNat
def k0_dev52 (d0 : Dev nD) : Nat :=
  let c0_i32_1560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1559 : BitVec 32 := 1#32
  let v1503 : BitVec 32 := Scalar.muli v19 c1_i32_1559
  let v1504 : BitVec 32 := Scalar.addi c0_i32_1560 v1503
  v1504.toNat
def k0_dev53 (d0 : Dev nD) : Nat :=
  let c0_i32_1575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1574 : BitVec 32 := 1#32
  let v1515 : BitVec 32 := Scalar.muli v34 c1_i32_1574
  let v1516 : BitVec 32 := Scalar.addi c0_i32_1575 v1515
  v1516.toNat
def k0_dev54 (d0 : Dev nD) : Nat :=
  let c0_i32_1590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1589 : BitVec 32 := 1#32
  let v1527 : BitVec 32 := Scalar.muli v34 c1_i32_1589
  let v1528 : BitVec 32 := Scalar.addi c0_i32_1590 v1527
  v1528.toNat
def k0_dev55 (d0 : Dev nD) : Nat :=
  let c0_i32_1690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1689 : BitVec 32 := 1#32
  let v1640 : BitVec 32 := Scalar.muli v34 c1_i32_1689
  let v1641 : BitVec 32 := Scalar.addi c0_i32_1690 v1640
  v1641.toNat
def k0_dev56 (d0 : Dev nD) : Nat :=
  let c0_i32_1694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1693 : BitVec 32 := 1#32
  let v1644 : BitVec 32 := Scalar.muli v34 c1_i32_1693
  let v1645 : BitVec 32 := Scalar.addi c0_i32_1694 v1644
  v1645.toNat
def k0_dev57 (d0 : Dev nD) : Nat :=
  let c0_i32_1698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1697 : BitVec 32 := 1#32
  let v1648 : BitVec 32 := Scalar.muli v19 c1_i32_1697
  let v1649 : BitVec 32 := Scalar.addi c0_i32_1698 v1648
  v1649.toNat
def k0_dev58 (d0 : Dev nD) : Nat :=
  let c0_i32_1702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1701 : BitVec 32 := 1#32
  let v1652 : BitVec 32 := Scalar.muli v19 c1_i32_1701
  let v1653 : BitVec 32 := Scalar.addi c0_i32_1702 v1652
  v1653.toNat
def k0_dev59 (d0 : Dev nD) : Nat :=
  let c0_i32_1808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1807 : BitVec 32 := 1#32
  let v1747 : BitVec 32 := Scalar.muli v19 c1_i32_1807
  let v1748 : BitVec 32 := Scalar.addi c0_i32_1808 v1747
  v1748.toNat
def k0_dev60 (d0 : Dev nD) : Nat :=
  let c0_i32_1823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1822 : BitVec 32 := 1#32
  let v1759 : BitVec 32 := Scalar.muli v19 c1_i32_1822
  let v1760 : BitVec 32 := Scalar.addi c0_i32_1823 v1759
  v1760.toNat
def k0_dev61 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1837 : BitVec 32 := 1#32
  let v1771 : BitVec 32 := Scalar.muli v34 c1_i32_1837
  let v1772 : BitVec 32 := Scalar.addi c0_i32_1838 v1771
  v1772.toNat
def k0_dev62 (d0 : Dev nD) : Nat :=
  let c0_i32_1853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1852 : BitVec 32 := 1#32
  let v1783 : BitVec 32 := Scalar.muli v34 c1_i32_1852
  let v1784 : BitVec 32 := Scalar.addi c0_i32_1853 v1783
  v1784.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1783 : BitVec 32 := 1#32
  let v1722 : BitVec 32 := Scalar.addi v5 c1_i32_1783
  let c8_i32_1784 : BitVec 32 := 8#32
  let c0_i32_1785 : BitVec 32 := 0#32
  let v1723 : BitVec 1 := Scalar.cmpi .eq c8_i32_1784 c0_i32_1785
  let c1_i32_1786 : BitVec 32 := 1#32
  let v1724 : BitVec 32 := Scalar.select v1723 c1_i32_1786 c8_i32_1784
  let v1725 : BitVec 32 := Scalar.remsi v1722 v1724
  let c0_i32_1788 : BitVec 32 := 0#32
  let v1727 : BitVec 1 := Scalar.cmpi .slt v1725 c0_i32_1788
  let c0_i32_1789 : BitVec 32 := 0#32
  let v1728 : BitVec 1 := Scalar.cmpi .slt v1724 c0_i32_1789
  let v1729 : BitVec 1 := Scalar.xori v1727 v1728
  let c0_i32_1787 : BitVec 32 := 0#32
  let v1726 : BitVec 1 := Scalar.cmpi .ne v1725 c0_i32_1787
  let v1730 : BitVec 1 := Scalar.andi v1729 v1726
  let v1731 : BitVec 32 := Scalar.addi v1725 v1724
  let v1732 : BitVec 32 := Scalar.select v1730 v1731 v1725
  let c512_i32_1864 : BitVec 32 := 512#32
  let v1803 : BitVec 32 := Scalar.muli v1732 c512_i32_1864
  let c0_i32_1865 : BitVec 32 := 0#32
  let v1804 : BitVec 32 := Scalar.addi v1803 c0_i32_1865
  let c0_i32_1867 : BitVec 32 := 0#32
  ![v1804.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1783 : BitVec 32 := 1#32
  let v1722 : BitVec 32 := Scalar.addi v5 c1_i32_1783
  let c8_i32_1784 : BitVec 32 := 8#32
  let c0_i32_1785 : BitVec 32 := 0#32
  let v1723 : BitVec 1 := Scalar.cmpi .eq c8_i32_1784 c0_i32_1785
  let c1_i32_1786 : BitVec 32 := 1#32
  let v1724 : BitVec 32 := Scalar.select v1723 c1_i32_1786 c8_i32_1784
  let v1725 : BitVec 32 := Scalar.remsi v1722 v1724
  let c0_i32_1788 : BitVec 32 := 0#32
  let v1727 : BitVec 1 := Scalar.cmpi .slt v1725 c0_i32_1788
  let c0_i32_1789 : BitVec 32 := 0#32
  let v1728 : BitVec 1 := Scalar.cmpi .slt v1724 c0_i32_1789
  let v1729 : BitVec 1 := Scalar.xori v1727 v1728
  let c0_i32_1787 : BitVec 32 := 0#32
  let v1726 : BitVec 1 := Scalar.cmpi .ne v1725 c0_i32_1787
  let v1730 : BitVec 1 := Scalar.andi v1729 v1726
  let v1731 : BitVec 32 := Scalar.addi v1725 v1724
  let v1732 : BitVec 32 := Scalar.select v1730 v1731 v1725
  let c512_i32_1876 : BitVec 32 := 512#32
  let v1821 : BitVec 32 := Scalar.muli v1732 c512_i32_1876
  let c0_i32_1877 : BitVec 32 := 0#32
  let v1822 : BitVec 32 := Scalar.addi v1821 c0_i32_1877
  let c2048_i32 : BitVec 32 := 2048#32
  ![v1822.toNat, 2048]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1790 : BitVec 32 := 1#32
  let v1733 : BitVec 32 := Scalar.subi v5 c1_i32_1790
  let c8_i32_1791 : BitVec 32 := 8#32
  let v1734 : BitVec 32 := Scalar.addi v1733 c8_i32_1791
  let c8_i32_1792 : BitVec 32 := 8#32
  let c0_i32_1793 : BitVec 32 := 0#32
  let v1735 : BitVec 1 := Scalar.cmpi .eq c8_i32_1792 c0_i32_1793
  let c1_i32_1794 : BitVec 32 := 1#32
  let v1736 : BitVec 32 := Scalar.select v1735 c1_i32_1794 c8_i32_1792
  let v1737 : BitVec 32 := Scalar.remsi v1734 v1736
  let c0_i32_1796 : BitVec 32 := 0#32
  let v1739 : BitVec 1 := Scalar.cmpi .slt v1737 c0_i32_1796
  let c0_i32_1797 : BitVec 32 := 0#32
  let v1740 : BitVec 1 := Scalar.cmpi .slt v1736 c0_i32_1797
  let v1741 : BitVec 1 := Scalar.xori v1739 v1740
  let c0_i32_1795 : BitVec 32 := 0#32
  let v1738 : BitVec 1 := Scalar.cmpi .ne v1737 c0_i32_1795
  let v1742 : BitVec 1 := Scalar.andi v1741 v1738
  let v1743 : BitVec 32 := Scalar.addi v1737 v1736
  let v1744 : BitVec 32 := Scalar.select v1742 v1743 v1737
  let c512_i32_1887 : BitVec 32 := 512#32
  let v1839 : BitVec 32 := Scalar.muli v1744 c512_i32_1887
  let c0_i32_1888 : BitVec 32 := 0#32
  let v1840 : BitVec 32 := Scalar.addi v1839 c0_i32_1888
  let c4096_i32 : BitVec 32 := 4096#32
  ![v1840.toNat, 4096]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1790 : BitVec 32 := 1#32
  let v1733 : BitVec 32 := Scalar.subi v5 c1_i32_1790
  let c8_i32_1791 : BitVec 32 := 8#32
  let v1734 : BitVec 32 := Scalar.addi v1733 c8_i32_1791
  let c8_i32_1792 : BitVec 32 := 8#32
  let c0_i32_1793 : BitVec 32 := 0#32
  let v1735 : BitVec 1 := Scalar.cmpi .eq c8_i32_1792 c0_i32_1793
  let c1_i32_1794 : BitVec 32 := 1#32
  let v1736 : BitVec 32 := Scalar.select v1735 c1_i32_1794 c8_i32_1792
  let v1737 : BitVec 32 := Scalar.remsi v1734 v1736
  let c0_i32_1796 : BitVec 32 := 0#32
  let v1739 : BitVec 1 := Scalar.cmpi .slt v1737 c0_i32_1796
  let c0_i32_1797 : BitVec 32 := 0#32
  let v1740 : BitVec 1 := Scalar.cmpi .slt v1736 c0_i32_1797
  let v1741 : BitVec 1 := Scalar.xori v1739 v1740
  let c0_i32_1795 : BitVec 32 := 0#32
  let v1738 : BitVec 1 := Scalar.cmpi .ne v1737 c0_i32_1795
  let v1742 : BitVec 1 := Scalar.andi v1741 v1738
  let v1743 : BitVec 32 := Scalar.addi v1737 v1736
  let v1744 : BitVec 32 := Scalar.select v1742 v1743 v1737
  let c512_i32_1898 : BitVec 32 := 512#32
  let v1857 : BitVec 32 := Scalar.muli v1744 c512_i32_1898
  let c0_i32_1899 : BitVec 32 := 0#32
  let v1858 : BitVec 32 := Scalar.addi v1857 c0_i32_1899
  let c6144_i32 : BitVec 32 := 6144#32
  ![v1858.toNat, 6144]
def k0_dev63 (d0 : Dev nD) : Nat :=
  let c0_i32_1950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1949 : BitVec 32 := 1#32
  let v1891 : BitVec 32 := Scalar.muli v34 c1_i32_1949
  let v1892 : BitVec 32 := Scalar.addi c0_i32_1950 v1891
  v1892.toNat
def k0_dev64 (d0 : Dev nD) : Nat :=
  let c0_i32_1954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1953 : BitVec 32 := 1#32
  let v1895 : BitVec 32 := Scalar.muli v34 c1_i32_1953
  let v1896 : BitVec 32 := Scalar.addi c0_i32_1954 v1895
  v1896.toNat
def k0_dev65 (d0 : Dev nD) : Nat :=
  let c0_i32_1958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1957 : BitVec 32 := 1#32
  let v1899 : BitVec 32 := Scalar.muli v19 c1_i32_1957
  let v1900 : BitVec 32 := Scalar.addi c0_i32_1958 v1899
  v1900.toNat
def k0_dev66 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1961 : BitVec 32 := 1#32
  let v1903 : BitVec 32 := Scalar.muli v19 c1_i32_1961
  let v1904 : BitVec 32 := Scalar.addi c0_i32_1962 v1903
  v1904.toNat
def k0_dev67 (d0 : Dev nD) : Nat :=
  let c0_i32_2036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2035 : BitVec 32 := 1#32
  let v1962 : BitVec 32 := Scalar.muli v19 c1_i32_2035
  let v1963 : BitVec 32 := Scalar.addi c0_i32_2036 v1962
  v1963.toNat
def k0_dev68 (d0 : Dev nD) : Nat :=
  let c0_i32_2051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2050 : BitVec 32 := 1#32
  let v1974 : BitVec 32 := Scalar.muli v19 c1_i32_2050
  let v1975 : BitVec 32 := Scalar.addi c0_i32_2051 v1974
  v1975.toNat
def k0_dev69 (d0 : Dev nD) : Nat :=
  let c0_i32_2066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2065 : BitVec 32 := 1#32
  let v1986 : BitVec 32 := Scalar.muli v34 c1_i32_2065
  let v1987 : BitVec 32 := Scalar.addi c0_i32_2066 v1986
  v1987.toNat
def k0_dev70 (d0 : Dev nD) : Nat :=
  let c0_i32_2081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2080 : BitVec 32 := 1#32
  let v1998 : BitVec 32 := Scalar.muli v34 c1_i32_2080
  let v1999 : BitVec 32 := Scalar.addi c0_i32_2081 v1998
  v1999.toNat
def k0_off8 (d0 : Dev nD) (c0_i32_2011 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1937 : BitVec 32 := Scalar.subi v5 c0_i32_2011
  let c8_i32_2012 : BitVec 32 := 8#32
  let v1938 : BitVec 32 := Scalar.addi v1937 c8_i32_2012
  let c8_i32_2013 : BitVec 32 := 8#32
  let c0_i32_2014 : BitVec 32 := 0#32
  let v1939 : BitVec 1 := Scalar.cmpi .eq c8_i32_2013 c0_i32_2014
  let c1_i32_2015 : BitVec 32 := 1#32
  let v1940 : BitVec 32 := Scalar.select v1939 c1_i32_2015 c8_i32_2013
  let v1941 : BitVec 32 := Scalar.remsi v1938 v1940
  let c0_i32_2017 : BitVec 32 := 0#32
  let v1943 : BitVec 1 := Scalar.cmpi .slt v1941 c0_i32_2017
  let c0_i32_2018 : BitVec 32 := 0#32
  let v1944 : BitVec 1 := Scalar.cmpi .slt v1940 c0_i32_2018
  let v1945 : BitVec 1 := Scalar.xori v1943 v1944
  let c0_i32_2016 : BitVec 32 := 0#32
  let v1942 : BitVec 1 := Scalar.cmpi .ne v1941 c0_i32_2016
  let v1946 : BitVec 1 := Scalar.andi v1945 v1942
  let v1947 : BitVec 32 := Scalar.addi v1941 v1940
  let v1948 : BitVec 32 := Scalar.select v1946 v1947 v1941
  let c512_i32_2092 : BitVec 32 := 512#32
  let v2018 : BitVec 32 := Scalar.muli v1948 c512_i32_2092
  let c0_i32_2093 : BitVec 32 := 0#32
  let v2019 : BitVec 32 := Scalar.addi v2018 c0_i32_2093
  let c0_i32_2095 : BitVec 32 := 0#32
  ![v2019.toNat, 0]
def k0_off9 (d0 : Dev nD) (c0_i32_2011 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1937 : BitVec 32 := Scalar.subi v5 c0_i32_2011
  let c8_i32_2012 : BitVec 32 := 8#32
  let v1938 : BitVec 32 := Scalar.addi v1937 c8_i32_2012
  let c8_i32_2013 : BitVec 32 := 8#32
  let c0_i32_2014 : BitVec 32 := 0#32
  let v1939 : BitVec 1 := Scalar.cmpi .eq c8_i32_2013 c0_i32_2014
  let c1_i32_2015 : BitVec 32 := 1#32
  let v1940 : BitVec 32 := Scalar.select v1939 c1_i32_2015 c8_i32_2013
  let v1941 : BitVec 32 := Scalar.remsi v1938 v1940
  let c0_i32_2017 : BitVec 32 := 0#32
  let v1943 : BitVec 1 := Scalar.cmpi .slt v1941 c0_i32_2017
  let c0_i32_2018 : BitVec 32 := 0#32
  let v1944 : BitVec 1 := Scalar.cmpi .slt v1940 c0_i32_2018
  let v1945 : BitVec 1 := Scalar.xori v1943 v1944
  let c0_i32_2016 : BitVec 32 := 0#32
  let v1942 : BitVec 1 := Scalar.cmpi .ne v1941 c0_i32_2016
  let v1946 : BitVec 1 := Scalar.andi v1945 v1942
  let v1947 : BitVec 32 := Scalar.addi v1941 v1940
  let v1948 : BitVec 32 := Scalar.select v1946 v1947 v1941
  let c512_i32_2104 : BitVec 32 := 512#32
  let v2036 : BitVec 32 := Scalar.muli v1948 c512_i32_2104
  let c0_i32_2105 : BitVec 32 := 0#32
  let v2037 : BitVec 32 := Scalar.addi v2036 c0_i32_2105
  let c2048_i32_2107 : BitVec 32 := 2048#32
  ![v2037.toNat, 2048]
def k0_off10 (d0 : Dev nD) (c0_i32_2019 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1949 : BitVec 32 := Scalar.addi v5 c0_i32_2019
  let c8_i32_2020 : BitVec 32 := 8#32
  let c0_i32_2021 : BitVec 32 := 0#32
  let v1950 : BitVec 1 := Scalar.cmpi .eq c8_i32_2020 c0_i32_2021
  let c1_i32_2022 : BitVec 32 := 1#32
  let v1951 : BitVec 32 := Scalar.select v1950 c1_i32_2022 c8_i32_2020
  let v1952 : BitVec 32 := Scalar.remsi v1949 v1951
  let c0_i32_2024 : BitVec 32 := 0#32
  let v1954 : BitVec 1 := Scalar.cmpi .slt v1952 c0_i32_2024
  let c0_i32_2025 : BitVec 32 := 0#32
  let v1955 : BitVec 1 := Scalar.cmpi .slt v1951 c0_i32_2025
  let v1956 : BitVec 1 := Scalar.xori v1954 v1955
  let c0_i32_2023 : BitVec 32 := 0#32
  let v1953 : BitVec 1 := Scalar.cmpi .ne v1952 c0_i32_2023
  let v1957 : BitVec 1 := Scalar.andi v1956 v1953
  let v1958 : BitVec 32 := Scalar.addi v1952 v1951
  let v1959 : BitVec 32 := Scalar.select v1957 v1958 v1952
  let c512_i32_2116 : BitVec 32 := 512#32
  let v2054 : BitVec 32 := Scalar.muli v1959 c512_i32_2116
  let c0_i32_2117 : BitVec 32 := 0#32
  let v2055 : BitVec 32 := Scalar.addi v2054 c0_i32_2117
  let c4096_i32_2119 : BitVec 32 := 4096#32
  ![v2055.toNat, 4096]
def k0_off11 (d0 : Dev nD) (c0_i32_2019 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1949 : BitVec 32 := Scalar.addi v5 c0_i32_2019
  let c8_i32_2020 : BitVec 32 := 8#32
  let c0_i32_2021 : BitVec 32 := 0#32
  let v1950 : BitVec 1 := Scalar.cmpi .eq c8_i32_2020 c0_i32_2021
  let c1_i32_2022 : BitVec 32 := 1#32
  let v1951 : BitVec 32 := Scalar.select v1950 c1_i32_2022 c8_i32_2020
  let v1952 : BitVec 32 := Scalar.remsi v1949 v1951
  let c0_i32_2024 : BitVec 32 := 0#32
  let v1954 : BitVec 1 := Scalar.cmpi .slt v1952 c0_i32_2024
  let c0_i32_2025 : BitVec 32 := 0#32
  let v1955 : BitVec 1 := Scalar.cmpi .slt v1951 c0_i32_2025
  let v1956 : BitVec 1 := Scalar.xori v1954 v1955
  let c0_i32_2023 : BitVec 32 := 0#32
  let v1953 : BitVec 1 := Scalar.cmpi .ne v1952 c0_i32_2023
  let v1957 : BitVec 1 := Scalar.andi v1956 v1953
  let v1958 : BitVec 32 := Scalar.addi v1952 v1951
  let v1959 : BitVec 32 := Scalar.select v1957 v1958 v1952
  let c512_i32_2128 : BitVec 32 := 512#32
  let v2072 : BitVec 32 := Scalar.muli v1959 c512_i32_2128
  let c0_i32_2129 : BitVec 32 := 0#32
  let v2073 : BitVec 32 := Scalar.addi v2072 c0_i32_2129
  let c6144_i32_2131 : BitVec 32 := 6144#32
  ![v2073.toNat, 6144]
def k0_dev71 (d0 : Dev nD) : Nat :=
  let c0_i32_2181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2180 : BitVec 32 := 1#32
  let v2106 : BitVec 32 := Scalar.muli v34 c1_i32_2180
  let v2107 : BitVec 32 := Scalar.addi c0_i32_2181 v2106
  v2107.toNat
def k0_dev72 (d0 : Dev nD) : Nat :=
  let c0_i32_2185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2184 : BitVec 32 := 1#32
  let v2110 : BitVec 32 := Scalar.muli v34 c1_i32_2184
  let v2111 : BitVec 32 := Scalar.addi c0_i32_2185 v2110
  v2111.toNat
def k0_dev73 (d0 : Dev nD) : Nat :=
  let c0_i32_2189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2188 : BitVec 32 := 1#32
  let v2114 : BitVec 32 := Scalar.muli v19 c1_i32_2188
  let v2115 : BitVec 32 := Scalar.addi c0_i32_2189 v2114
  v2115.toNat
def k0_dev74 (d0 : Dev nD) : Nat :=
  let c0_i32_2193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2192 : BitVec 32 := 1#32
  let v2118 : BitVec 32 := Scalar.muli v19 c1_i32_2192
  let v2119 : BitVec 32 := Scalar.addi c0_i32_2193 v2118
  v2119.toNat
def k0_dev75 (d0 : Dev nD) : Nat :=
  let c0_i32_2267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2266 : BitVec 32 := 1#32
  let v2177 : BitVec 32 := Scalar.muli v19 c1_i32_2266
  let v2178 : BitVec 32 := Scalar.addi c0_i32_2267 v2177
  v2178.toNat
def k0_dev76 (d0 : Dev nD) : Nat :=
  let c0_i32_2282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2281 : BitVec 32 := 1#32
  let v2189 : BitVec 32 := Scalar.muli v19 c1_i32_2281
  let v2190 : BitVec 32 := Scalar.addi c0_i32_2282 v2189
  v2190.toNat
def k0_dev77 (d0 : Dev nD) : Nat :=
  let c0_i32_2297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2296 : BitVec 32 := 1#32
  let v2201 : BitVec 32 := Scalar.muli v34 c1_i32_2296
  let v2202 : BitVec 32 := Scalar.addi c0_i32_2297 v2201
  v2202.toNat
def k0_dev78 (d0 : Dev nD) : Nat :=
  let c0_i32_2312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2311 : BitVec 32 := 1#32
  let v2213 : BitVec 32 := Scalar.muli v34 c1_i32_2311
  let v2214 : BitVec 32 := Scalar.addi c0_i32_2312 v2213
  v2214.toNat
def k0_dev79 (d0 : Dev nD) : Nat :=
  let c0_i32_2412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2411 : BitVec 32 := 1#32
  let v2321 : BitVec 32 := Scalar.muli v34 c1_i32_2411
  let v2322 : BitVec 32 := Scalar.addi c0_i32_2412 v2321
  v2322.toNat
def k0_dev80 (d0 : Dev nD) : Nat :=
  let c0_i32_2416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2415 : BitVec 32 := 1#32
  let v2325 : BitVec 32 := Scalar.muli v34 c1_i32_2415
  let v2326 : BitVec 32 := Scalar.addi c0_i32_2416 v2325
  v2326.toNat
def k0_dev81 (d0 : Dev nD) : Nat :=
  let c0_i32_2420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2419 : BitVec 32 := 1#32
  let v2329 : BitVec 32 := Scalar.muli v19 c1_i32_2419
  let v2330 : BitVec 32 := Scalar.addi c0_i32_2420 v2329
  v2330.toNat
def k0_dev82 (d0 : Dev nD) : Nat :=
  let c0_i32_2424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2423 : BitVec 32 := 1#32
  let v2333 : BitVec 32 := Scalar.muli v19 c1_i32_2423
  let v2334 : BitVec 32 := Scalar.addi c0_i32_2424 v2333
  v2334.toNat
def k0_dev83 (d0 : Dev nD) : Nat :=
  let c0_i32_2498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2497 : BitVec 32 := 1#32
  let v2392 : BitVec 32 := Scalar.muli v19 c1_i32_2497
  let v2393 : BitVec 32 := Scalar.addi c0_i32_2498 v2392
  v2393.toNat
def k0_dev84 (d0 : Dev nD) : Nat :=
  let c0_i32_2513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2512 : BitVec 32 := 1#32
  let v2404 : BitVec 32 := Scalar.muli v19 c1_i32_2512
  let v2405 : BitVec 32 := Scalar.addi c0_i32_2513 v2404
  v2405.toNat
def k0_dev85 (d0 : Dev nD) : Nat :=
  let c0_i32_2528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2527 : BitVec 32 := 1#32
  let v2416 : BitVec 32 := Scalar.muli v34 c1_i32_2527
  let v2417 : BitVec 32 := Scalar.addi c0_i32_2528 v2416
  v2417.toNat
def k0_dev86 (d0 : Dev nD) : Nat :=
  let c0_i32_2543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2542 : BitVec 32 := 1#32
  let v2428 : BitVec 32 := Scalar.muli v34 c1_i32_2542
  let v2429 : BitVec 32 := Scalar.addi c0_i32_2543 v2428
  v2429.toNat
def k0_dev87 (d0 : Dev nD) : Nat :=
  let c0_i32_2643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2642 : BitVec 32 := 1#32
  let v2536 : BitVec 32 := Scalar.muli v34 c1_i32_2642
  let v2537 : BitVec 32 := Scalar.addi c0_i32_2643 v2536
  v2537.toNat
def k0_dev88 (d0 : Dev nD) : Nat :=
  let c0_i32_2647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2646 : BitVec 32 := 1#32
  let v2540 : BitVec 32 := Scalar.muli v34 c1_i32_2646
  let v2541 : BitVec 32 := Scalar.addi c0_i32_2647 v2540
  v2541.toNat
def k0_dev89 (d0 : Dev nD) : Nat :=
  let c0_i32_2651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2650 : BitVec 32 := 1#32
  let v2544 : BitVec 32 := Scalar.muli v19 c1_i32_2650
  let v2545 : BitVec 32 := Scalar.addi c0_i32_2651 v2544
  v2545.toNat
def k0_dev90 (d0 : Dev nD) : Nat :=
  let c0_i32_2655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2654 : BitVec 32 := 1#32
  let v2548 : BitVec 32 := Scalar.muli v19 c1_i32_2654
  let v2549 : BitVec 32 := Scalar.addi c0_i32_2655 v2548
  v2549.toNat
def k0_dev91 (d0 : Dev nD) : Nat :=
  let c0_i32_2729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2728 : BitVec 32 := 1#32
  let v2607 : BitVec 32 := Scalar.muli v19 c1_i32_2728
  let v2608 : BitVec 32 := Scalar.addi c0_i32_2729 v2607
  v2608.toNat
def k0_dev92 (d0 : Dev nD) : Nat :=
  let c0_i32_2744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2743 : BitVec 32 := 1#32
  let v2619 : BitVec 32 := Scalar.muli v19 c1_i32_2743
  let v2620 : BitVec 32 := Scalar.addi c0_i32_2744 v2619
  v2620.toNat
def k0_dev93 (d0 : Dev nD) : Nat :=
  let c0_i32_2759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2758 : BitVec 32 := 1#32
  let v2631 : BitVec 32 := Scalar.muli v34 c1_i32_2758
  let v2632 : BitVec 32 := Scalar.addi c0_i32_2759 v2631
  v2632.toNat
def k0_dev94 (d0 : Dev nD) : Nat :=
  let c0_i32_2774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2773 : BitVec 32 := 1#32
  let v2643 : BitVec 32 := Scalar.muli v34 c1_i32_2773
  let v2644 : BitVec 32 := Scalar.addi c0_i32_2774 v2643
  v2644.toNat
def k0_dev95 (d0 : Dev nD) : Nat :=
  let c0_i32_2874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2873 : BitVec 32 := 1#32
  let v2751 : BitVec 32 := Scalar.muli v34 c1_i32_2873
  let v2752 : BitVec 32 := Scalar.addi c0_i32_2874 v2751
  v2752.toNat
def k0_dev96 (d0 : Dev nD) : Nat :=
  let c0_i32_2878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2877 : BitVec 32 := 1#32
  let v2755 : BitVec 32 := Scalar.muli v34 c1_i32_2877
  let v2756 : BitVec 32 := Scalar.addi c0_i32_2878 v2755
  v2756.toNat
def k0_dev97 (d0 : Dev nD) : Nat :=
  let c0_i32_2882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2881 : BitVec 32 := 1#32
  let v2759 : BitVec 32 := Scalar.muli v19 c1_i32_2881
  let v2760 : BitVec 32 := Scalar.addi c0_i32_2882 v2759
  v2760.toNat
def k0_dev98 (d0 : Dev nD) : Nat :=
  let c0_i32_2886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2885 : BitVec 32 := 1#32
  let v2763 : BitVec 32 := Scalar.muli v19 c1_i32_2885
  let v2764 : BitVec 32 := Scalar.addi c0_i32_2886 v2763
  v2764.toNat
def k0_dev99 (d0 : Dev nD) : Nat :=
  let c0_i32_2960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2959 : BitVec 32 := 1#32
  let v2822 : BitVec 32 := Scalar.muli v19 c1_i32_2959
  let v2823 : BitVec 32 := Scalar.addi c0_i32_2960 v2822
  v2823.toNat
def k0_dev100 (d0 : Dev nD) : Nat :=
  let c0_i32_2975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2974 : BitVec 32 := 1#32
  let v2834 : BitVec 32 := Scalar.muli v19 c1_i32_2974
  let v2835 : BitVec 32 := Scalar.addi c0_i32_2975 v2834
  v2835.toNat
def k0_dev101 (d0 : Dev nD) : Nat :=
  let c0_i32_2990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2989 : BitVec 32 := 1#32
  let v2846 : BitVec 32 := Scalar.muli v34 c1_i32_2989
  let v2847 : BitVec 32 := Scalar.addi c0_i32_2990 v2846
  v2847.toNat
def k0_dev102 (d0 : Dev nD) : Nat :=
  let c0_i32_3005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3004 : BitVec 32 := 1#32
  let v2858 : BitVec 32 := Scalar.muli v34 c1_i32_3004
  let v2859 : BitVec 32 := Scalar.addi c0_i32_3005 v2858
  v2859.toNat
def k0_dev103 (d0 : Dev nD) : Nat :=
  let c0_i32_3105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3104 : BitVec 32 := 1#32
  let v2966 : BitVec 32 := Scalar.muli v34 c1_i32_3104
  let v2967 : BitVec 32 := Scalar.addi c0_i32_3105 v2966
  v2967.toNat
def k0_dev104 (d0 : Dev nD) : Nat :=
  let c0_i32_3109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3108 : BitVec 32 := 1#32
  let v2970 : BitVec 32 := Scalar.muli v34 c1_i32_3108
  let v2971 : BitVec 32 := Scalar.addi c0_i32_3109 v2970
  v2971.toNat
def k0_dev105 (d0 : Dev nD) : Nat :=
  let c0_i32_3113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3112 : BitVec 32 := 1#32
  let v2974 : BitVec 32 := Scalar.muli v19 c1_i32_3112
  let v2975 : BitVec 32 := Scalar.addi c0_i32_3113 v2974
  v2975.toNat
def k0_dev106 (d0 : Dev nD) : Nat :=
  let c0_i32_3117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3116 : BitVec 32 := 1#32
  let v2978 : BitVec 32 := Scalar.muli v19 c1_i32_3116
  let v2979 : BitVec 32 := Scalar.addi c0_i32_3117 v2978
  v2979.toNat
def k0_dev107 (d0 : Dev nD) : Nat :=
  let c0_i32_3191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3190 : BitVec 32 := 1#32
  let v3037 : BitVec 32 := Scalar.muli v19 c1_i32_3190
  let v3038 : BitVec 32 := Scalar.addi c0_i32_3191 v3037
  v3038.toNat
def k0_dev108 (d0 : Dev nD) : Nat :=
  let c0_i32_3206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3205 : BitVec 32 := 1#32
  let v3049 : BitVec 32 := Scalar.muli v19 c1_i32_3205
  let v3050 : BitVec 32 := Scalar.addi c0_i32_3206 v3049
  v3050.toNat
def k0_dev109 (d0 : Dev nD) : Nat :=
  let c0_i32_3221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3220 : BitVec 32 := 1#32
  let v3061 : BitVec 32 := Scalar.muli v34 c1_i32_3220
  let v3062 : BitVec 32 := Scalar.addi c0_i32_3221 v3061
  v3062.toNat
def k0_dev110 (d0 : Dev nD) : Nat :=
  let c0_i32_3236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3235 : BitVec 32 := 1#32
  let v3073 : BitVec 32 := Scalar.muli v34 c1_i32_3235
  let v3074 : BitVec 32 := Scalar.addi c0_i32_3236 v3073
  v3074.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel body, written by pipe and hop.

The printed body is a straight line of about a thousand operations. Here it is written again as fourteen hops
over four pipes, each operation named by its pipe `p` and hop `h`; `Body.lean` proves that the printed body
is this program. -/
module

public import proofs.«01_k».proof.Proof.Gen.KernelIdeal.Skeleton
public import proofs.«01_k».proof.Proof.Gen.KernelIdeal.Points

@[expose] public section

noncomputable section

namespace Cert.KernelIdeal.Pipes

open Idealize.ShloMosaic Idealize.SL.Sem Cert.KernelIdeal.Gen

variable {F : FTy → Type} [FloatOps F]

/-! ## Buffers and semaphores by pipe -/

/-- Pipe `p`'s two-slot communication buffer. -/
abbrev commRef : Fin 4 → Ref sig .tc
  | 0 => cc0_scratch0
  | 1 => cc0_scratch1
  | 2 => cc0_scratch2
  | 3 => cc0_scratch3

/-- Pipe `p`'s communication buffer as a memref. -/
def comm : Fin 4 → Memref sig .tc .vmem S2x512x2048 .bf16
  | 0 => Memref.whole cc0_scratch0
  | 1 => Memref.whole cc0_scratch1
  | 2 => Memref.whole cc0_scratch2
  | 3 => Memref.whole cc0_scratch3

/-- Pipe `p`'s accumulator as a memref. -/
def acc : Fin 4 → Memref sig .tc .vmem S512x2048 .f32
  | 0 => Memref.whole cc0_scratch4
  | 1 => Memref.whole cc0_scratch5
  | 2 => Memref.whole cc0_scratch6
  | 3 => Memref.whole cc0_scratch7

theorem comm_whole : ∀ p, (comm p).IsWhole
  | 0 => Memref.isWhole_whole _
  | 1 => Memref.isWhole_whole _
  | 2 => Memref.isWhole_whole _
  | 3 => Memref.isWhole_whole _

theorem acc_whole : ∀ p, (acc p).IsWhole
  | 0 => Memref.isWhole_whole _
  | 1 => Memref.isWhole_whole _
  | 2 => Memref.isWhole_whole _
  | 3 => Memref.isWhole_whole _

theorem inb_slot (s : Fin 2) : ∀ a, (![s.val, 0, 0] : Fin 3 → ℕ) a + S1x512x2048.size a ≤ S2x512x2048.size a := by
  revert s; decide

theorem inb_cols (p : Fin 4) : ∀ a, (![0, 2048 * p.val] : Fin 2 → ℕ) a + S512x2048.size a ≤ S512x8192.size a := by
  revert p; decide

theorem inb_sem (p : Fin 4) (s : Fin 2) : ∀ a, (![p.val, s.val] : Fin 2 → ℕ) a + S1x1.size a ≤ S4x2.size a := by
  revert p s; decide

theorem inb_sem1 (p : Fin 4) : ∀ a, (![p.val] : Fin 1 → ℕ) a + S1.size a ≤ S4.size a := by
  revert p; decide

/-- The box of slot `s` in a communication buffer. -/
abbrev slotRect (s : Fin 2) : Rect S2x512x2048 := Rect.unit (s := S2x512x2048) ![s.val, 0, 0] S1x512x2048.size (inb_slot s)

/-- Slot `s` of pipe `p`'s communication buffer, as a matrix. -/
def slot (p : Fin 4) (s : Fin 2) : Memref sig .tc .vmem S512x2048 .bf16 :=
  ((comm p).slice (slotRect s) (fun _ => rfl)).squeeze S512x2048 squeezes_S1x512x2048_S512x2048

theorem slot_words (p : Fin 4) (s : Fin 2) : (slot p s).view.WordExact := by
  have h : (slotRect s).WholeWords (EltTy.packing .bf16) := by revert s; decide
  exact ((comm_whole p).wordExact_slice rfl _ h).reshape _ _

theorem slot_packed (s : Fin 2) : (slotRect s).PackedRows (EltTy.packing .bf16) := by revert s; decide

theorem slot_tc (p : Fin 4) (s : Fin 2) : (slot p s).view.ref.isScScratch = false := by
  revert p s; decide

/-- The columns of `w` that pipe `p` computes with. -/
abbrev colRect (p : Fin 4) : Rect S512x8192 := Rect.unit (s := S512x8192) ![0, 2048 * p.val] S512x2048.size (inb_cols p)

/-- An accumulator read and written whole. -/
abbrev accRect : Rect S512x2048 := Rect.unit (s := S512x2048) ![0, 0] S512x2048.size inb_S512x2048_S512x2048_0_0

/-- The departure semaphore of pipe `p`, slot `s`. -/
def sendSem (p : Fin 4) (s : Fin 2) : DmaSem sig :=
  ((cc0_scratch8.slice (Rect.unit (s := S4x2) ![p.val, s.val] S1x1.size (inb_sem p s))).squeeze S_ squeezes_S1x1_S_).sem

/-- The landing semaphore of pipe `p`, slot `s`. -/
def recvSem (p : Fin 4) (s : Fin 2) : DmaSem sig :=
  ((cc0_scratch9.slice (Rect.unit (s := S4x2) ![p.val, s.val] S1x1.size (inb_sem p s))).squeeze S_ squeezes_S1x1_S_).sem

/-- The credit semaphore of pipe `p`. -/
def creditSem (p : Fin 4) : Sem sig :=
  ((cc0_scratch10.slice (Rect.unit (s := S4) ![p.val] S1.size (inb_sem1 p))).squeeze S_ squeezes_S1_S_).sem

/-- The output semaphore of pipe `p`. -/
def outSem (p : Fin 4) : DmaSem sig :=
  ((cc0_scratch11.slice (Rect.unit (s := S4) ![p.val] S1.size (inb_sem1 p))).squeeze S_ squeezes_S1_S_).sem

/-- The barrier semaphore. -/
def barSem : Sem sig := (SemArray.scalar (sig.barrier 0 rfl) : Sems sig S_).sem

/-! ## Devices and blocks by pipe, as the kernel computes them -/

/-- The device pipe `p` of device `d` sends to: the next one on the ring for pipes 0 and 1, the one before for 2 and 3. -/
def dest (d : Dev nD) : Fin 4 → Dev nD
  | 0 => ⟨k0_dev3 d, k0_dev3_lt d⟩
  | 1 => ⟨k0_dev4 d, k0_dev4_lt d⟩
  | 2 => ⟨k0_dev5 d, k0_dev5_lt d⟩
  | 3 => ⟨k0_dev6 d, k0_dev6_lt d⟩

/-- The device pipe `p` of device `d` receives from. -/
def upst (d : Dev nD) : Fin 4 → Dev nD
  | 0 => ⟨k0_dev7 d, k0_dev7_lt d⟩
  | 1 => ⟨k0_dev8 d, k0_dev8_lt d⟩
  | 2 => ⟨k0_dev9 d, k0_dev9_lt d⟩
  | 3 => ⟨k0_dev10 d, k0_dev10_lt d⟩

/-- Where in `x` the rows that pipe `p` adds at hop `k` start. -/
def rowOff (d : Dev nD) (k : Fin 7) : Fin 4 → (Fin 2 → ℕ)
  | 0 => k0_off2 d (BitVec.ofNat 32 k.val)
  | 1 => k0_off2 d (BitVec.ofNat 32 k.val)
  | 2 => k0_off3 d (BitVec.ofNat 32 k.val)
  | 3 => k0_off3 d (BitVec.ofNat 32 k.val)

theorem rowOff_inb (d : Dev nD) (k : Fin 7) : ∀ p a, rowOff d k p a + S512x512.size a ≤ S4096x512.size a
  | 0 => k0_off2_inb d k
  | 1 => k0_off2_inb d k
  | 2 => k0_off3_inb d k
  | 3 => k0_off3_inb d k

/-- Where in the result the block of pipe `p` that the first flush writes starts. -/
def outOff0 (d : Dev nD) : Fin 4 → (Fin 2 → ℕ)
  | 0 => k0_off4 d
  | 1 => k0_off5 d
  | 2 => k0_off6 d
  | 3 => k0_off7 d

theorem outOff0_inb (d : Dev nD) : ∀ p a, outOff0 d p a + S512x2048.size a ≤ S4096x8192.size a
  | 0 => k0_off4_inb d
  | 1 => k0_off5_inb d
  | 2 => k0_off6_inb d
  | 3 => k0_off7_inb d

/-- Where in the result the block of pipe `p` of a later flush starts. -/
def outOff (d : Dev nD) (t : Fin 7) : Fin 4 → (Fin 2 → ℕ)
  | 0 => k0_off8 d (BitVec.ofNat 32 t.val)
  | 1 => k0_off9 d (BitVec.ofNat 32 t.val)
  | 2 => k0_off10 d (BitVec.ofNat 32 t.val)
  | 3 => k0_off11 d (BitVec.ofNat 32 t.val)

theorem outOff_inb (d : Dev nD) (t : Fin 7) : ∀ p a, outOff d t p a + S512x2048.size a ≤ S4096x8192.size a
  | 0 => k0_off8_inb d t
  | 1 => k0_off9_inb d t
  | 2 => k0_off10_inb d t
  | 3 => k0_off11_inb d t

/-- The slot hop `h` sends from. -/
def ss (h : ℕ) : Fin 2 := ⟨h % 2, Nat.mod_lt _ (by decide)⟩
/-- The slot hop `h` lands in. -/
def rs (h : ℕ) : Fin 2 := ⟨(h + 1) % 2, Nat.mod_lt _ (by decide)⟩

/-! ## Values -/

/-- Rows of `x` times columns of `w`, in single precision. -/
def prodOf (x : Vec F S512x512 .fp8e4m3) (w : Vec F S512x2048 .fp8e4m3) : FVec F S512x2048 .f32 :=
  matmul dot_S512x512_S512x2048_S512x2048_1_0_0_1_n_n none
    (extf .bf16 (shapeCast S512x512 x shapeCasts_S512x512_S512x512) bitsLt_fp8e4m3_bf16)
    (extf .bf16 (shapeCast S512x2048 w shapeCasts_S512x2048_S512x2048) bitsLt_fp8e4m3_bf16)
    (constant S512x2048 .f32 0x00000000#32)

/-- The product rounded to the communication buffer's type. -/
def firstOf (x : Vec F S512x512 .fp8e4m3) (w : Vec F S512x2048 .fp8e4m3) : FVec F S1x512x2048 .bf16 :=
  shapeCast S1x512x2048 (truncf .bf16 (prodOf x w) bitsLt_bf16_f32) shapeCasts_S512x2048_S1x512x2048

/-- The product as the accumulator keeps it. -/
def keepOf (x : Vec F S512x512 .fp8e4m3) (w : Vec F S512x2048 .fp8e4m3) : FVec F S512x2048 .f32 :=
  shapeCast S512x2048 (prodOf x w) shapeCasts_S512x2048_S512x2048

/-- What arrived plus the accumulator, rounded. -/
def sumOf (r : Vec F S1x512x2048 .bf16) (a : Vec F S512x2048 .f32) : FVec F S1x512x2048 .bf16 :=
  shapeCast S1x512x2048
    (truncf .bf16 (addf (extf .f32 (shapeCast S512x2048 r shapeCasts_S1x512x2048_S512x2048) bitsLt_bf16_f32) a) bitsLt_bf16_f32)
    shapeCasts_S512x2048_S1x512x2048

/-- A finished block scaled and clipped at zero. -/
def doneOf (sc : F .f32) (r : Vec F S1x512x2048 .bf16) : FVec F S512x2048 .f32 :=
  shapeCast S512x2048
    (maximumf (mulf (extf .f32 (shapeCast S512x2048 r shapeCasts_S1x512x2048_S512x2048) bitsLt_bf16_f32) (broadcast S512x2048 sc))
      (broadcast S512x2048 (Scalar.ofBits .f32 0x00000000#32 : F .f32)))
    shapeCasts_S512x2048_S512x2048

/-! ## Operations -/

/-- The program type of this kernel's bodies. -/
abbrev P (F : FTy → Type) [FloatOps F] (α : Type) := Prog (TpuEff nD τ sig (Elt F) Λ₀ .tc) α

/-- One step on each pipe in turn. -/
def pipes (f : Fin 4 → P F PUnit) : P F PUnit := do
  f 0
  f 1
  f 2
  f 3

/-- The staged operands. -/
abbrev xM : Memref sig .tc .vmem S4096x512 .fp8e4m3 := Memref.whole cc0_stg0_0
abbrev wM : Memref sig .tc .vmem S512x8192 .fp8e4m3 := Memref.whole cc0_stg1_0
abbrev sxM : Memref sig .tc .smem S1 .f32 := Memref.whole cc0_stg2_0
abbrev swM : Memref sig .tc .smem S1 .f32 := Memref.whole cc0_stg3_0
/-- The result. -/
abbrev oM : Memref sig .tc .hbm S4096x8192 .f32 := Memref.whole main_v1

/-- Read slot `s` of pipe `p`. -/
def loadSlot (p : Fin 4) (s : Fin 2) : P F (Vec F S1x512x2048 .bf16) :=
  Prog.lift (.load (comm p) (slotRect s).toLoadRect (View.loadsAt_vmem h_S1x512x2048))

/-- Write slot `s` of pipe `p`. -/
def storeSlot (p : Fin 4) (s : Fin 2) (v : FVec F S1x512x2048 .bf16) : P F PUnit :=
  Prog.lift (.store (comm p) (slotRect s) v Finset.univ
    (View.stores_vmem h_S1x512x2048 ((comm_whole p).storeExact_slice rfl _ (slot_packed s)) (fun _ => rfl)) (.inl rfl))

/-- Read pipe `p`'s accumulator. -/
def loadAcc (p : Fin 4) : P F (Vec F S512x2048 .f32) :=
  Prog.lift (.load (acc p) accRect.toLoadRect (View.loadsAt_vmem h_S512x2048))

/-- Write pipe `p`'s accumulator. -/
def storeAcc (p : Fin 4) (v : FVec F S512x2048 .f32) : P F PUnit :=
  Prog.lift (.store (acc p) accRect v Finset.univ (View.stores_vmem_bits_univ h_S512x2048 rfl) (.inl rfl))

/-- Read 512 rows of `x` from an offset. -/
def loadX (off : Fin 2 → ℕ) (hoff : ∀ a, off a + S512x512.size a ≤ S4096x512.size a) : P F (Vec F S512x512 .fp8e4m3) :=
  Prog.lift (.load xM (Rect.unit (s := S4096x512) off S512x512.size hoff).toLoadRect (View.loadsAt_vmem h_S512x512))

/-- Read pipe `p`'s columns of `w`. -/
def loadW (p : Fin 4) : P F (Vec F S512x2048 .fp8e4m3) :=
  Prog.lift (.load wM (colRect p).toLoadRect (View.loadsAt_vmem h_S512x2048))

/-- Before the first hop: pipe `p`'s slot 0 gets this device's own block. -/
def seed (d : Dev nD) (p : Fin 4) : P F PUnit := do
  let x ← loadX (k0_off1 d) (k0_off1_inb d)
  let w ← loadW p
  let _ ← loadSlot p 0
  storeSlot p 0 (firstOf x w)

/-- Start hop `h`'s copy on pipe `p`. -/
def send (d : Dev nD) (h : ℕ) (p : Fin 4) : P F PUnit :=
  Prog.lift (.enqueueDma (slot p (ss h)) (.remote (Dev.tc (dest d p)) (slot p (rs h)) (.dma (sendSem p (ss h))) (slot_tc p (rs h)))
    (.dma (recvSem p (rs h))) (slot_words p (ss h)) (slot_words p (rs h)) ⟨⟨rfl, Or.inl rfl⟩, trivial⟩)

/-- Take a credit of pipe `p`, then start hop `h`'s copy. -/
def creditSend (d : Dev nD) (h : ℕ) (p : Fin 4) : P F PUnit := do
  semWaitWord (creditSem p) 1#32
  send d h p

/-- The next block's product into pipe `p`'s accumulator. -/
def compute (d : Dev nD) (k : Fin 7) (p : Fin 4) : P F PUnit := do
  let x ← loadX (rowOff d k p) (rowOff_inb d k p)
  let w ← loadW p
  let _ ← loadAcc p
  storeAcc p (keepOf x w)

/-- Wait for hop `h`'s departure on pipe `p`. -/
def waitSend (h : ℕ) (p : Fin 4) : P F PUnit :=
  Prog.lift (.waitDma2 (sendSem p (ss h)) (slot p (rs h)) (slot p (ss h)) (slot_words p (rs h)) (slot_words p (ss h)))

/-- Give the device pipe `p` receives from a credit. -/
def giveCredit (d : Dev nD) (p : Fin 4) : P F PUnit :=
  semSignalWord (upst d p) (creditSem p) 1#32

/-- Wait for hop `h`'s landing on pipe `p`. -/
def waitRecv (h : ℕ) (p : Fin 4) : P F PUnit :=
  Prog.lift (.waitDma2 (recvSem p (rs h)) (slot p (ss h)) (slot p (rs h)) (slot_words p (ss h)) (slot_words p (rs h)))

/-- Add the accumulator to what landed at hop `h`. -/
def addUp (h : ℕ) (p : Fin 4) : P F PUnit := do
  let r ← loadSlot p (rs h)
  let a ← loadAcc p
  let _ ← loadSlot p (rs h)
  storeSlot p (rs h) (sumOf r a)

/-- Wait for hop `h`'s landing and add to it. -/
def recvAdd (h : ℕ) (p : Fin 4) : P F PUnit := do
  waitRecv h p
  addUp h p

/-- The block of the result at an offset. -/
abbrev outM (off : Fin 2 → ℕ) (hoff : ∀ a, off a + S512x2048.size a ≤ S4096x8192.size a) : Memref sig .tc .hbm S512x2048 .f32 :=
  oM.slice (Rect.unit (s := S4096x8192) off S512x2048.size hoff) (fun _ => rfl)

/-- Finish the block in slot `s` of pipe `p` and copy it to the result. -/
def flush (sc : F .f32) (s : Fin 2) (off : Fin 4 → Fin 2 → ℕ) (hoff : ∀ p a, off p a + S512x2048.size a ≤ S4096x8192.size a)
    (p : Fin 4) : P F PUnit := do
  let r ← loadSlot p s
  let _ ← loadAcc p
  storeAcc p (doneOf sc r)
  Prog.lift (.enqueueDma (acc p) (.here (outM (off p) (hoff p))) (.dma (outSem p)) (acc_whole p).wordExact (View.wordExact_bits rfl) ⟨Or.inl rfl, trivial⟩)
  Prog.lift (.waitDma2 (outSem p) (acc p) (outM (off p) (hoff p)) (acc_whole p).wordExact (View.wordExact_bits rfl))

/-- A hop of the first seven from its products on. -/
def hopTail (d : Dev nD) (k : Fin 7) : P F PUnit := do
  pipes (compute d k)
  pipes (waitSend k.val)
  pipes (giveCredit d)
  pipes (recvAdd k.val)

/-- A hop of the last seven. -/
def lateHop (d : Dev nD) (sc : F .f32) (h : ℕ) (off : Fin 4 → Fin 2 → ℕ)
    (hoff : ∀ p a, off p a + S512x2048.size a ≤ S4096x8192.size a) : P F PUnit := do
  pipes (creditSend d h)
  pipes (flush sc (ss h) off hoff)
  pipes (waitSend h)
  pipes (giveCredit d)
  pipes (waitRecv h)

/-- Hops 1 to 6. -/
def earlyHop (d : Dev nD) (k : Fin 7) : P F PUnit := do
  pipes (creditSend d k.val)
  hopTail d k

/-- The whole body on device `d`, its scale read. -/
def rest (d : Dev nD) (sc : F .f32) : P F PUnit := do
  semSignalWord (upst d 0) barSem 1#32
  semSignalWord (dest d 0) barSem 1#32
  semWaitWord barSem 2#32
  pipes (seed d)
  pipes (send d 0)
  hopTail d 0
  earlyHop d 1
  earlyHop d 2
  earlyHop d 3
  earlyHop d 4
  earlyHop d 5
  earlyHop d 6
  lateHop d sc 7 (outOff0 d) (outOff0_inb d)
  lateHop d sc 8 (outOff d 0) (outOff_inb d 0)
  lateHop d sc 9 (outOff d 1) (outOff_inb d 1)
  lateHop d sc 10 (outOff d 2) (outOff_inb d 2)
  lateHop d sc 11 (outOff d 3) (outOff_inb d 3)
  lateHop d sc 12 (outOff d 4) (outOff_inb d 4)
  pipes (creditSend d 13)
  pipes (flush sc (ss 13) (outOff d 5) (outOff_inb d 5))
  pipes (waitSend 13)
  pipes (waitRecv 13)
  pipes (flush sc (rs 13) (outOff d 6) (outOff_inb d 6))

/-- The product of the two scales as the body reads them. -/
def readScale : P F (F .f32) := do
  let a ← smemLoad sxM (Rect.unit (s := S1) ![0] S1.size inb_S1_S1_0) numel1_S1 rfl
  let b ← smemLoad swM (Rect.unit (s := S1) ![0] S1.size inb_S1_S1_0) numel1_S1 rfl
  pure (Scalar.mulf a b)

/-- The whole body. -/
def prog : P F PUnit := do
  let d ← (Prog.lift .deviceId : P F (Dev nD))
  let sc ← readScale
  rest d sc

end Cert.KernelIdeal.Pipes

end
-- ==== Proof.Ring.lean ====
/- The ring and the values that travel along it.

Which device a pipe reads from and writes to, which block of the result each flush writes, and what every slot
holds after every hop. -/
module

public import proofs.«01_k».proof.Proof.Prog

@[expose] public section

noncomputable section

namespace Cert.KernelIdeal.Pipes

open Idealize.ShloMosaic Idealize.SL.Sem Cert.KernelIdeal.Gen
open Idealize.ShloMosaic.TcCoe

variable {F : FTy → Type} [FloatOps F]

/-! ## Neighbours -/

theorem dest_upst (c : Dev nD) (p : Fin 4) : dest (upst c p) p = c := by revert c p; decide +kernel
theorem upst_dest (c : Dev nD) (p : Fin 4) : upst (dest c p) p = c := by revert c p; decide +kernel
theorem dest_one (c : Dev nD) : dest c 1 = dest c 0 := by revert c; decide +kernel
theorem dest_two (c : Dev nD) : dest c 2 = upst c 0 := by revert c; decide +kernel
theorem dest_three (c : Dev nD) : dest c 3 = upst c 0 := by revert c; decide +kernel

/-- Moving along pipe `p`'s direction. -/
def along (p : Fin 4) : Dev nD ≃ Dev nD := ⟨fun c => dest c p, fun c => upst c p, fun c => upst_dest c p, fun c => dest_upst c p⟩

/-! ## Slots by hop -/

theorem rs_succ (h : ℕ) : rs (h + 1) = ss h := by
  apply Fin.ext; show (h + 1 + 1) % 2 = h % 2; omega
theorem ss_succ (h : ℕ) : ss (h + 1) = rs h := rfl
theorem ss_ne_rs (h : ℕ) : ss h ≠ rs h := fun e => by
  have := congrArg Fin.val e
  change h % 2 = (h + 1) % 2 at this
  omega

/-! ## Blocks of the result -/

/-- A device's place on the ring. -/
def rank (c : Dev nD) : ℕ := if c.val < 4 then c.val else 11 - c.val

/-- The row block that pipe `p` of device `c` writes at its flush number `j`. -/
def blk (c : Dev nD) (j : ℕ) (p : Fin 4) : Fin 8 :=
  if p.val < 2 then ⟨(rank c + 9 + 7 * j) % 8, Nat.mod_lt _ (by decide)⟩ else ⟨(rank c + 7 + j) % 8, Nat.mod_lt _ (by decide)⟩

/-- Where block `b` of pipe `p`'s columns starts. -/
abbrev tileOff (b : Fin 8) (p : Fin 4) : Fin 2 → ℕ := ![512 * b.val, 2048 * p.val]

theorem tile_inb (b : Fin 8) (p : Fin 4) : ∀ a, tileOff b p a + S512x2048.size a ≤ S4096x8192.size a := by
  revert b p; decide

theorem outOff0_eq (c : Dev nD) (p : Fin 4) : outOff0 c p = tileOff (blk c 0 p) p := by
  revert c p; decide +kernel

theorem outOff_eq (c : Dev nD) (t : Fin 7) (p : Fin 4) : outOff c t p = tileOff (blk c (t.val + 1) p) p := by
  revert c t p; decide +kernel

/-- The device that completes block `b` of pipe `p`. -/
def fin (b : Fin 8) (p : Fin 4) : Dev nD :=
  let r := if p.val < 2 then (b.val + 7) % 8 else (b.val + 1) % 8
  ⟨(if r < 4 then r else 11 - r) % 8, Nat.mod_lt _ (by decide : 0 < 8)⟩

/-- `n` steps against pipe `p`'s direction. -/
def back (p : Fin 4) : ℕ → Dev nD → Dev nD
  | 0, c => c
  | n + 1, c => back p n (upst c p)

theorem back_fin (c : Dev nD) (p : Fin 4) (j : Fin 8) : back p j.val c = fin (blk c j.val p) p := by
  revert c p j; decide +kernel

theorem blk_inj (c : Dev nD) (p : Fin 4) (j k : Fin 8) (h : blk c j.val p = blk c k.val p) : j = k := by
  revert c p j k; decide +kernel

/-! ## What travels -/

/-- The operands as every device holds them on chip, and its scale. -/
structure Inputs (F : FTy → Type) [FloatOps F] where
  /-- The device's columns of the left matrix. -/
  x : Dev nD → Vec F S4096x512 .fp8e4m3
  /-- The device's rows of the right matrix. -/
  w : Dev nD → Vec F S512x8192 .fp8e4m3
  /-- The product of the two scales. -/
  sc : Dev nD → F .f32

variable (I : Inputs F)

/-- 512 rows of a device's left operand. -/
def Inputs.rows (c : Dev nD) (off : Fin 2 → ℕ) (hoff : ∀ a, off a + S512x512.size a ≤ S4096x512.size a) : Vec F S512x512 .fp8e4m3 :=
  xM.view.readAt (Elt F) (Rect.unit (s := S4096x512) off S512x512.size hoff).toLoadRect (I.x c)

/-- A pipe's columns of a device's right operand. -/
def Inputs.cols (c : Dev nD) (p : Fin 4) : Vec F S512x2048 .fp8e4m3 :=
  wM.view.readAt (Elt F) (colRect p).toLoadRect (I.w c)

/-- The product that pipe `p` of device `c` adds at hop `k`. -/
def Inputs.part (c : Dev nD) (k : Fin 7) (p : Fin 4) : FVec F S512x2048 .f32 :=
  keepOf (I.rows c (rowOff c k p) (rowOff_inb c k p)) (I.cols c p)

/-- What pipe `p` of device `c` sends at hop `h`. -/
def Inputs.val : ℕ → Dev nD → Fin 4 → FVec F S1x512x2048 .bf16
  | 0, c, p => firstOf (I.rows c (k0_off1 c) (k0_off1_inb c)) (I.cols c p)
  | h + 1, c, p => if hh : h < 7 then sumOf (Inputs.val h (upst c p) p) (I.part c ⟨h, hh⟩ p) else Inputs.val h (upst c p) p

theorem val_late (c : Dev nD) (p : Fin 4) : ∀ j, I.val (7 + j) c p = I.val 7 (back p j c) p
  | 0 => rfl
  | j + 1 => by
    show I.val (7 + j + 1) c p = I.val 7 (back p j (upst c p)) p
    rw [Inputs.val, dif_neg (by omega), val_late]

theorem val_add (c : Dev nD) (p : Fin 4) (k : Fin 7) : I.val (k.val + 1) c p = sumOf (I.val k.val (upst c p) p) (I.part c k p) := by
  rw [Inputs.val, dif_pos k.isLt]

theorem val_pass (c : Dev nD) (p : Fin 4) (h : ℕ) (hh : 7 ≤ h) : I.val (h + 1) c p = I.val h (upst c p) p := by
  rw [Inputs.val, dif_neg (by omega)]

/-- Row block `b` of pipe `p`'s columns of device `c`'s result. -/
def Inputs.tile (c : Dev nD) (b : Fin 8) (p : Fin 4) : FVec F S512x2048 .f32 := doneOf (I.sc c) (I.val 7 (fin b p) p)

theorem tile_val (c : Dev nD) (p : Fin 4) (j : Fin 8) : doneOf (I.sc c) (I.val (7 + j.val) c p) = I.tile c (blk c j.val p) p := by
  unfold Inputs.tile; rw [val_late, back_fin]

/-- Device `c`'s result. -/
def Inputs.out (c : Dev nD) : Vec F S4096x8192 .f32 := fun i =>
  I.tile c ⟨(i 0).val / 512, by have := (i 0).isLt; change (i 0).val < 4096 at this; omega⟩
    ⟨(i 1).val / 2048, by have := (i 1).isLt; change (i 1).val < 8192 at this; omega⟩
    (fun a => match a with
      | ⟨0, _⟩ => ⟨(i 0).val % 512, Nat.mod_lt _ (by decide)⟩
      | ⟨1, _⟩ => ⟨(i 1).val % 2048, Nat.mod_lt _ (by decide)⟩)

/-- The tile of the result at block `b` of pipe `p`. -/
abbrev tileM (b : Fin 8) (p : Fin 4) : Memref sig .tc .hbm S512x2048 .f32 := outM (tileOff b p) (tile_inb b p)

theorem out_tile (c : Dev nD) (b : Fin 8) (p : Fin 4) : (tileM b p).view.read (Elt F) (I.out c) = I.tile c b p := by
  funext y
  have hy0 : (y 0).val < 512 := (y 0).isLt
  have hy1 : (y 1).val < 2048 := (y 1).isLt
  show I.out c ((Rect.unit (s := S4096x8192) (tileOff b p) S512x2048.size (tile_inb b p)).emb y) = _
  have e0 : (((Rect.unit (s := S4096x8192) (tileOff b p) S512x2048.size (tile_inb b p)).emb y) 0).val = 512 * b.val + (y 0).val := by
    show 512 * b.val + 1 * (y 0).val = _
    omega
  have e1 : (((Rect.unit (s := S4096x8192) (tileOff b p) S512x2048.size (tile_inb b p)).emb y) 1).val = 2048 * p.val + (y 1).val := by
    show 2048 * p.val + 1 * (y 1).val = _
    omega
  unfold Inputs.out
  congr 1
  · congr 1
    rw [e0]; omega
  · apply Fin.ext; show _ / 2048 = p.val; rw [e1]; omega
  · funext a
    match a with
    | ⟨0, _⟩ => apply Fin.ext; show _ % 512 = (y 0).val; rw [e0]; omega
    | ⟨1, _⟩ => apply Fin.ext; show _ % 2048 = (y 1).val; rw [e1]; omega

end Cert.KernelIdeal.Pipes

end
-- ==== Proof.Sched.lean ====
/- The protocol of the ring.

Per device and pipe: a departure semaphore and a landing semaphore for each of two slots, a credit semaphore and an
output semaphore; per device one barrier semaphore.

* barrier: two units in one round. The next device on the ring hands over that slot 1 of its pipes 0 and 1 is free,
  the one before that slot 1 of its pipes 2 and 3 is free.
* departure of slot `s`: hop `h` with `h % 2 = s` is round `h / 2`. It hands back the half of the slot that was lent
  to the copy, holding `val h`.
* landing of slot `s`: hop `h` with `(h + 1) % 2 = s` is round `h / 2`. The device upstream pays it with the slot,
  holding what that device sent.
* credit: one round of thirteen units. Unit `j` hands over every fact "the slot that hop `k + 1` writes is free" for
  `k ≤ j`: two units may be outstanding at once, so a unit that arrives must not speak for itself alone.
* output: flush `j` is round `j`. It hands back the accumulator and the tile of the result, written.

A free slot waits in an invariant between its owner's release and its writer's take, so only the fact travels. -/
module

public import proofs.«01_k».proof.Proof.Ring
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Idealize.SL.BI.BigOpNat

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A slot of a device: the device, the pipe, the slot. -/
abbrev Key : Type := Dev nD × Fin 4 × Fin 2
/-- The rounds' own ghost state. -/
abbrev UB : Type := URounds (GSem nD τ sig) ℕ
/-- The slots' own ghost state. -/
abbrev UK : Type := Release.USlots Key
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EQ : Emb (UB × UK) (MT nD τ sig ℕ (Elt F) ℕ UU ℕ) := embR
abbrev ER : Emb UB (MT nD τ sig ℕ (Elt F) ℕ UU ℕ) := (Emb.inl : Emb UB (UB × UK)).trans EQ
abbrev EK : Emb UK (MT nD τ sig ℕ (Elt F) ℕ UU ℕ) := (Emb.inr : Emb UK (UB × UK)).trans EQ

/-! ## Cells -/

abbrev barCell (c : Dev nD) : GSem nD τ sig := ((c : Thread nD τ), .reg barSem)
abbrev credCell (c : Dev nD) (p : Fin 4) : GSem nD τ sig := ((c : Thread nD τ), .reg (creditSem p))
abbrev sendCell (c : Dev nD) (p : Fin 4) (s : Fin 2) : GSem nD τ sig := ((c : Thread nD τ), .dma (sendSem p s))
abbrev recvCell (c : Dev nD) (p : Fin 4) (s : Fin 2) : GSem nD τ sig := ((c : Thread nD τ), .dma (recvSem p s))
abbrev outCell (c : Dev nD) (p : Fin 4) : GSem nD τ sig := ((c : Thread nD τ), .dma (outSem p))

/-- What a semaphore is for. -/
inductive Role
  | bar
  | cred (p : Fin 4)
  | send (p : Fin 4) (s : Fin 2)
  | recv (p : Fin 4) (s : Fin 2)
  | out (p : Fin 4)
  | other
deriving DecidableEq

/-- The role of each semaphore. -/
def roleOf : SemLoc sig → Role
  | .reg i => if i.val = 4 then .bar else .cred ⟨i.val % 4, Nat.mod_lt _ (by decide)⟩
  | .dma i =>
    if i.val < 4 then .other
    else if i.val < 12 then .send ⟨(i.val - 4) / 2 % 4, Nat.mod_lt _ (by decide)⟩ ⟨i.val % 2, Nat.mod_lt _ (by decide)⟩
    else if i.val < 20 then .recv ⟨(i.val - 12) / 2 % 4, Nat.mod_lt _ (by decide)⟩ ⟨i.val % 2, Nat.mod_lt _ (by decide)⟩
    else .out ⟨i.val % 4, Nat.mod_lt _ (by decide)⟩

theorem role_bar : roleOf (.reg barSem) = .bar := by decide
theorem role_cred (p : Fin 4) : roleOf (.reg (creditSem p)) = .cred p := by revert p; decide
theorem role_send (p : Fin 4) (s : Fin 2) : roleOf (.dma (sendSem p s)) = .send p s := by revert p s; decide
theorem role_recv (p : Fin 4) (s : Fin 2) : roleOf (.dma (recvSem p s)) = .recv p s := by revert p s; decide
theorem role_out (p : Fin 4) : roleOf (.dma (outSem p)) = .out p := by revert p; decide

/-- The units a slot's copy moves. -/
def N : ℕ := (slot 0 0).view.dmaCredit
/-- The units a tile's copy moves. -/
def NO : ℕ := (tileM 0 0).view.dmaCredit
theorem slot_credit (p : Fin 4) (s : Fin 2) : (slot p s).view.dmaCredit = N := by
  fin_cases p <;> fin_cases s <;> rfl
theorem tile_credit (b : Fin 8) (p : Fin 4) : (tileM b p).view.dmaCredit = NO := rfl
theorem N_pos : 0 < N := View.dmaCredit_pos _ (by decide)
theorem NO_pos : 0 < NO := View.dmaCredit_pos _ (by decide)

/-! ## What is held -/

/-- The elements of slot `s`, as the loads and stores go through them. -/
abbrev slotV (p : Fin 4) (s : Fin 2) : View sig .tc .vmem S1x512x2048 .bf16 := (comm p).access (slotRect s)

/-- Share `q` of slot `s` of pipe `p` of device `c`, holding `v`. -/
def slotAt (c : Dev nD) (p : Fin 4) (s : Fin 2) (q : PosShare TreeShare) (v : FVec F S1x512x2048 .bf16) : sProp 𝕄 :=
  iprop(∃ f : Buf (Elt F) ((slotV p s).loc (c : Thread nD τ)), ⌜(slotV p s).read (Elt F) f = v⌝ ∗ ((slotV p s).loc (c : Thread nD τ) ↦[(slotV p s).set]{q} f))

/-- A slot at any contents. -/
def slotAny (c : Dev nD) (p : Fin 4) (s : Fin 2) : sProp 𝕄 := Release.slot ((slotV p s).loc (c : Thread nD τ)) (slotV p s).set

/-- The accumulator of pipe `p` of device `c`, holding `v`. -/
def accAt (c : Dev nD) (p : Fin 4) (v : FVec F S512x2048 .f32) : sProp 𝕄 :=
  iprop(∃ f : Buf (Elt F) ((acc p).view.loc (c : Thread nD τ)), ⌜(acc p).view.read (Elt F) f = v⌝ ∗ ((acc p).view.loc (c : Thread nD τ) ↦[(acc p).view.set]{fullShare} f))

/-- The accumulator at any contents. -/
def accAny (c : Dev nD) (p : Fin 4) : sProp 𝕄 := iprop(∃ v, accAt c p v)

/-- A tile of the result, holding what `g` has there. -/
def tileAt (c : Dev nD) (b : Fin 8) (p : Fin 4) (g : Vec F S4096x8192 .f32) : sProp 𝕄 :=
  (tileM b p).view.loc (c : Thread nD τ) ↦[(tileM b p).view.set]{fullShare} (g : Buf (Elt F) ((tileM b p).view.loc (c : Thread nD τ)))

/-- A tile of the result at any contents. -/
def tileAny (c : Dev nD) (b : Fin 8) (p : Fin 4) : sProp 𝕄 := iprop(∃ g, tileAt c b p g)

instance slotAt_storable (c : Dev nD) (p : Fin 4) (s : Fin 2) (q) (v : FVec F S1x512x2048 .bf16) :
    BI.Storable (upEmb : UEmb _ 𝕄) (slotAt c p s q v) := by unfold slotAt; infer_instance
instance slotAny_storable (c : Dev nD) (p : Fin 4) (s : Fin 2) :
    BI.Storable (upEmb : UEmb _ 𝕄) (slotAny (F := F) c p s) := by unfold slotAny; infer_instance
instance accAny_storable (c : Dev nD) (p : Fin 4) : BI.Storable (upEmb : UEmb _ 𝕄) (accAny (F := F) c p) := by
  unfold accAny accAt; infer_instance
instance tileAt_storable (c : Dev nD) (b : Fin 8) (p : Fin 4) (g : Vec F S4096x8192 .f32) :
    BI.Storable (upEmb : UEmb _ 𝕄) (tileAt c b p g) := by unfold tileAt; infer_instance

/-! ## The facts that travel -/

/-- The slot of device `c` that hop `h` writes is free for that hop. -/
def ready (c : Dev nD) (p : Fin 4) (h : ℕ) : sProp 𝕄 :=
  iprop(Release.released EK (c, p, rs h) (h / 2 + 1) ∗ reached ER (recvCell c p (rs h)) (h / 2))

instance ready_persistent (c : Dev nD) (p : Fin 4) (h : ℕ) : BI.Persistent (ready (F := F) c p h) := by unfold ready; infer_instance
instance ready_storable (c : Dev nD) (p : Fin 4) (h : ℕ) : BI.Storable (upEmb : UEmb _ 𝕄) (ready (F := F) c p h) := by
  unfold ready; infer_instance

/-- The slots of device `c` that hops 1 to `n` write are free for them. -/
def freed (c : Dev nD) (p : Fin 4) (n : ℕ) : sProp 𝕄 := bigSep (Finset.range n) fun k => ready c p (k + 1)

instance freed_persistent (c : Dev nD) (p : Fin 4) (n : ℕ) : BI.Persistent (freed (F := F) c p n) := by unfold freed; infer_instance
instance freed_storable (c : Dev nD) (p : Fin 4) (n : ℕ) : BI.Storable (upEmb : UEmb _ 𝕄) (freed (F := F) c p n) := by
  unfold freed; infer_instance

/-! ## The schedule -/

variable (I : Inputs F)

/-- What a unit of a role on device `c` hands over. -/
def payOf (c : Dev nD) : Role → ℕ → ℕ → sProp 𝕄
  | .bar, _, d => if d = 0 then iprop(ready (dest c 0) 0 0 ∗ ready (dest c 1) 1 0) else iprop(ready (dest c 2) 2 0 ∗ ready (dest c 3) 3 0)
  | .cred p, _, d => freed (dest c p) p (d + 1)
  | .send p s, r, _ => slotAt c p s fullShare.left (I.val (2 * r + s.val) c p)
  | .recv p s, r, _ => slotAt c p s fullShare (I.val (2 * r + (1 - s.val)) (upst c p) p)
  | .out p, r, _ => iprop(accAny c p ∗ tileAt c (blk c r p) p (I.out c))
  | .other, _, _ => iprop(emp)

instance payOf_storable (c : Dev nD) (k : Role) (r d : ℕ) : BI.Storable (upEmb : UEmb _ 𝕄) (payOf I c k r d) := by
  cases k
  case bar => simp only [payOf]; split <;> infer_instance
  all_goals simp only [payOf]; infer_instance

/-- The units of a role's round. -/
def dutiesOf : Role → ℕ → Finset ℕ
  | .bar, r => if r = 0 then {0, 1} else ∅
  | .cred _, r => if r = 0 then Finset.range 13 else ∅
  | .send _ _, r => if r < 7 then {0} else ∅
  | .recv _ _, r => if r < 7 then {0} else ∅
  | .out _, r => if r < 8 then {0} else ∅
  | .other, _ => ∅

/-- How much each unit of a role counts. -/
def amountOf : Role → ℕ
  | .bar => 1
  | .cred _ => 1
  | .send _ _ => N
  | .recv _ _ => N
  | .out _ => NO
  | .other => 1

/-- The protocol. -/
def sched : Rounds.Schedule (GSem nD τ sig) ℕ 𝕄 where
  duties g r := if g.1.2 = .tc then dutiesOf (roleOf g.2) r else ∅
  amount g _ _ := amountOf (roleOf g.2)
  payload g r d := payOf I g.1.1 (roleOf g.2) r d
  amount_pos g _ _ _ := by
    cases roleOf g.2 <;> first | exact Nat.one_pos | exact N_pos | exact NO_pos

instance sched_storable (g : GSem nD τ sig) (r d : ℕ) : BI.Storable (upEmb : UEmb _ 𝕄) ((sched I).payload g r d) :=
  payOf_storable I _ _ _ _

theorem duties_eq (c : Dev nD) (sm : SemLoc sig) (r : ℕ) : (sched I).duties ((c : Thread nD τ), sm) r = dutiesOf (roleOf sm) r := by
  simp [sched]
theorem amount_eq (c : Dev nD) (sm : SemLoc sig) (r d : ℕ) : (sched I).amount ((c : Thread nD τ), sm) r d = amountOf (roleOf sm) := rfl
theorem payload_eq (c : Dev nD) (sm : SemLoc sig) (r d : ℕ) : (sched I).payload ((c : Thread nD τ), sm) r d = payOf I c (roleOf sm) r d := rfl

theorem expect_eq (c : Dev nD) (sm : SemLoc sig) (r : ℕ) :
    (sched I).expect ((c : Thread nD τ), sm) r = (dutiesOf (roleOf sm) r).card * amountOf (roleOf sm) := by
  unfold Schedule.expect Schedule.amountOf
  rw [duties_eq, Finset.sum_congr rfl fun d _ => amount_eq I c sm r d, Finset.sum_const, smul_eq_mul]

theorem duties_later (c : Dev nD) (sm : SemLoc sig) (n r : ℕ)
    (hn : (match roleOf sm with | .bar => 1 | .cred _ => 1 | .send _ _ => 7 | .recv _ _ => 7 | .out _ => 8 | .other => 0) ≤ n) (hr : n ≤ r) :
    (sched I).duties ((c : Thread nD τ), sm) r = ∅ := by
  rw [duties_eq]
  revert hn
  cases roleOf sm <;> intro hn <;> unfold dutiesOf <;> first | rfl | (refine if_neg ?_; simp only at hn; omega)

/-! ## Levels -/

/-- The index that a unit of hop `h`'s landing is counted under, which is also its level. -/
abbrev ixRecv (h : ℕ) : ℕ := 2 * h + 2
/-- The same for credit `j`. -/
abbrev ixCred (j : ℕ) : ℕ := 2 * j + 3
/-- The same for the barrier. -/
abbrev ixBar : ℕ := 1

def L (g : GSem nD τ sig) : Finset ℕ := if g.1.2 = .tc then Finset.range 64 else ∅
/-- A unit's level is its index. -/
def lv (_ : GSem nD τ sig) (i : ℕ) : ℕ := i

theorem mem_L {g : GSem nD τ sig} {i : ℕ} (hg : g.1.2 = .tc) (hi : i < 64) : i ∈ L g := by
  unfold L; rw [if_pos hg]; exact Finset.mem_range.mpr hi
theorem L_of_ne (g : GSem nD τ sig) (h : g.1.2 ≠ .tc) : L g = ∅ := if_neg h

/-- One thing a device still owes: a cell, an index, an amount. -/
abbrev Due : Type := GSem nD τ sig × ℕ × ℕ

/-- The sum of a list of dues. -/
def tal : List Due → CellTallies nD τ sig ℕ
  | [] => 0
  | x :: l => tal l + tallyAt x.1 x.2.1 x.2.2

theorem tal_cons (x : Due) (l : List Due) : tal (x :: l) = tal l + tallyAt x.1 x.2.1 x.2.2 := rfl

theorem tal_pos {l : List Due} {g : GSem nD τ sig} {i : ℕ} (h : 0 < tal l g i) : ∃ x ∈ l, x.1 = g ∧ x.2.1 = i := by
  induction l with
  | nil => exact absurd h (Nat.lt_irrefl 0)
  | cons x l ih =>
    rw [tal_cons, Pi.add_apply, Finsupp.add_apply, tallyAt_apply] at h
    by_cases hx : g = x.1 ∧ i = x.2.1
    · exact ⟨x, List.mem_cons_self, hx.1.symm, hx.2.symm⟩
    · rw [if_neg hx, Nat.add_zero] at h
      obtain ⟨y, hy, e⟩ := ih h
      exact ⟨y, List.mem_cons_of_mem _ hy, e⟩

/-- Every due of a list is on a TensorCore, above `n` and below 64. -/
def Above (n : ℕ) (l : List Due) : Prop := ∀ x ∈ l, x.1.1.2 = .tc ∧ n < x.2.1 ∧ x.2.1 < 64

/-- A wait at an index below everything owed is allowed. -/
theorem mayWait (c : Dev nD) (sm : SemLoc sig) {n : ℕ} (hn : n < 64) {l : List Due} (hl : Above n l) :
    (levAts L lv : sProp 𝕄) ⊢ MayWait (c : Thread nD τ) sm n (tal l) :=
  MayOwe.of_cut (L := L) (lev := lv) n
    (fun p hp => by rw [Finset.mem_singleton.mp hp]; exact mem_L rfl hn)
    (fun g i hg => by
      obtain ⟨x, hx, rfl, rfl⟩ := tal_pos hg
      exact mem_L (hl x hx).1 (hl x hx).2.2)
    (fun p hp => by rw [Finset.mem_singleton.mp hp]; exact le_rfl)
    (fun g i hg => by obtain ⟨x, hx, rfl, rfl⟩ := tal_pos hg; exact (hl x hx).2.1)

/-- What device `c` owes for the landings of hop `h`. -/
def dueRecv (c : Dev nD) (h : ℕ) (p : Fin 4) : Due := (recvCell (dest c p) p (rs h), ixRecv h, N)
/-- What device `c` owes as credits at hop `h`. -/
def dueCred (c : Dev nD) (h : ℕ) (p : Fin 4) : Due := (credCell (upst c p) p, ixCred h, 1)

/-- What is left of four dues from pipe `i` on, then the rest. -/
def from4 (f : Fin 4 → Due) (l : List Due) (i : ℕ) : List Due := ((List.finRange 4).drop i).map f ++ l

theorem from4_cons (f : Fin 4 → Due) (l : List Due) (p : Fin 4) : from4 f l p.val = f p :: from4 f l (p.val + 1) := by
  fin_cases p <;> rfl
theorem from4_end (f : Fin 4 → Due) (l : List Due) : from4 f l 4 = l := rfl

/-- Everything device `c` owes from hop `h` on, `n` hops being left. -/
def duesN (c : Dev nD) : ℕ → List Due
  | 0 => []
  | n + 1 => from4 (dueRecv c (13 - n)) (if n = 0 then [] else from4 (dueCred c (13 - n)) (duesN c n) 0) 0

/-- Everything device `c` owes from hop `h` on. -/
def dues (c : Dev nD) (h : ℕ) : List Due := duesN c (14 - h)
/-- Everything device `c` owes once hop `h`'s copies have started. -/
def duesSent (c : Dev nD) (h : ℕ) : List Due := if h < 13 then from4 (dueCred c h) (dues c (h + 1)) 0 else []

theorem dues_eq (c : Dev nD) (h : ℕ) (hh : h < 14) : dues c h = from4 (dueRecv c h) (duesSent c h) 0 := by
  unfold dues duesSent
  obtain ⟨n, rfl⟩ : ∃ n, h = 13 - n := ⟨13 - h, by omega⟩
  by_cases hn : 13 < n
  · have e : 13 - n = 13 - 13 := by omega
    rw [e]; rfl
  · have e1 : 14 - (13 - n) = n + 1 := by omega
    rw [e1, duesN]
    congr 1
    by_cases h0 : n = 0
    · rw [if_pos h0, if_neg (by omega)]
    · rw [if_neg h0, if_pos (by omega)]
      unfold dues
      congr 2
      omega

theorem duesSent_eq (c : Dev nD) (h : ℕ) (hh : h < 13) : duesSent c h = from4 (dueCred c h) (dues c (h + 1)) 0 := if_pos hh

/-- All that a device owes at launch, the barrier first. -/
def duesAll (c : Dev nD) : List Due := (barCell (upst c 0), ixBar, 1) :: (barCell (dest c 0), ixBar, 1) :: dues c 0

theorem mem_from4 {f : Fin 4 → Due} {l : List Due} {i : ℕ} {x : Due} (h : x ∈ from4 f l i) : (∃ p, x = f p) ∨ x ∈ l := by
  rcases List.mem_append.mp h with h | h
  · obtain ⟨p, -, rfl⟩ := List.mem_map.mp h; exact .inl ⟨p, rfl⟩
  · exact .inr h

theorem mem_duesN {c : Dev nD} {x : Due} : ∀ {n : ℕ}, x ∈ duesN c n →
    ∃ k < n, (∃ p, x = dueRecv c (13 - k) p) ∨ ((∃ p, x = dueCred c (13 - k) p) ∧ k ≠ 0)
  | 0, h => absurd h List.not_mem_nil
  | n + 1, h => by
    rcases mem_from4 h with ⟨p, e⟩ | h
    · exact ⟨n, Nat.lt_succ_self _, .inl ⟨p, e⟩⟩
    · by_cases h0 : n = 0
      · rw [if_pos h0] at h; exact absurd h List.not_mem_nil
      · rw [if_neg h0] at h
        rcases mem_from4 h with ⟨p, e⟩ | h
        · exact ⟨n, Nat.lt_succ_self _, .inr ⟨⟨p, e⟩, h0⟩⟩
        · obtain ⟨k, hk, r⟩ := mem_duesN h
          exact ⟨k, by omega, r⟩

theorem above_dues (c : Dev nD) (h : ℕ) : Above (2 * h + 1) (dues c h) := by
  intro x hx
  obtain ⟨k, hk, ⟨p, rfl⟩ | ⟨⟨p, rfl⟩, h0⟩⟩ := mem_duesN hx
  · refine ⟨rfl, ?_, ?_⟩
    · show 2 * h + 1 < 2 * (13 - k) + 2; omega
    · show 2 * (13 - k) + 2 < 64; omega
  · refine ⟨rfl, ?_, ?_⟩
    · show 2 * h + 1 < 2 * (13 - k) + 3; omega
    · show 2 * (13 - k) + 3 < 64; omega

theorem Above.mono {n m : ℕ} {l : List Due} (h : Above n l) (hm : m ≤ n) : Above m l :=
  fun x hx => ⟨(h x hx).1, by have := (h x hx).2.1; omega, (h x hx).2.2⟩

theorem Above.from4 {n : ℕ} {f : Fin 4 → Due} {l : List Due} (hf : ∀ p, (f p).1.1.2 = .tc ∧ n < (f p).2.1 ∧ (f p).2.1 < 64)
    (hl : Above n l) (i : ℕ) : Above n (from4 f l i) := fun x hx => by
  rcases mem_from4 hx with ⟨p, rfl⟩ | hx
  · exact hf p
  · exact hl x hx

theorem above_sent (c : Dev nD) (h : ℕ) : Above (2 * h + 2) (duesSent c h) := by
  unfold duesSent
  split
  · exact ((above_dues c (h + 1)).mono (by omega)).from4 (fun p => ⟨rfl, by show 2 * h + 2 < 2 * h + 3; omega, by show 2 * h + 3 < 64; omega⟩) 0
  · intro x hx; exact absurd hx List.not_mem_nil

theorem above_sending (c : Dev nD) (h : ℕ) (hh : h < 14) (i : ℕ) : Above (2 * h + 1) (from4 (dueRecv c h) (duesSent c h) i) :=
  ((above_sent c h).mono (by omega)).from4 (fun p => ⟨rfl, by show 2 * h + 1 < 2 * h + 2; omega, by show 2 * h + 2 < 64; omega⟩) i

theorem above_all (c : Dev nD) : Above 0 (duesAll c) := fun x hx => by
  rcases List.mem_cons.mp hx with rfl | hx
  · exact ⟨rfl, Nat.one_pos, (by decide : 1 < 64)⟩
  rcases List.mem_cons.mp hx with rfl | hx
  · exact ⟨rfl, Nat.one_pos, (by decide : 1 < 64)⟩
  exact (above_dues c 0).mono (by omega) x hx

end Cert.KernelIdeal.Pipes

end
-- ==== Proof.Mem.lean ====
/- Loads, stores and views: what each memory operation of the body does to the slots, the accumulators and the
operands. -/
module

public import proofs.«01_k».proof.Proof.Sched

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a piece of the body on device `c`. -/
abbrev wpc (c : Dev nD) {α : Type} (e : P F α) (Q : α → sProp 𝕄) : sProp 𝕄 :=
  wp frame (wpE (defs₀ (F := F)) 𝒱₀ (c : Thread nD τ) none) Set.univ e Q

theorem wpc_bind (c : Dev nD) {α β : Type} (e : P F α) (k : α → P F β) (Q : β → sProp 𝕄) :
    wpc c (e >>= k) Q = wpc c e (fun a => wpc c (k a) Q) := wp_bind _ _ _ _ _ _

/-- One summand out of many. -/
theorem bigSep_one {M : Type} [URA M] {J : Type} [DecidableEq J] {S : Finset J} {i : J} (h : i ∈ S) {Φ : J → sProp M} :
    (bigSep S Φ : sProp M) ⊢ Φ i := bigSep_elim h

/-- One summand and the others. -/
theorem bigSep_add {M : Type} [URA M] {J : Type} [DecidableEq J] {S : Finset J} {i : J} (h : i ∉ S) {Φ : J → sProp M} :
    (bigSep (insert i S) Φ : sProp M) = iprop(Φ i ∗ bigSep S Φ) := bigSep_insert h

/-- A part of the summands and the rest. -/
theorem bigSep_part {M : Type} [URA M] {J : Type} [DecidableEq J] {S T : Finset J} (h : T ⊆ S) {Φ : J → sProp M} :
    (bigSep S Φ : sProp M) = iprop(bigSep T Φ ∗ bigSep (S \ T) Φ) := bigSep_sdiff_split h

/-! ## Views -/

theorem slot_set (p : Fin 4) (s : Fin 2) : (slot p s).view.set = (slotV p s).set := View.set_reshape _ _

/-- A slot read as a matrix is the slot read as loads read it, re-indexed. -/
theorem slot_read (p : Fin 4) (s : Fin 2) (f : (slotV p s).ty.Contents (Elt F)) (i : S512x2048.Idx) :
    (slot p s).view.read (Elt F) f i = (slotV p s).read (Elt F) f (Shape.reshapeEquiv squeezes_S1x512x2048_S512x2048.numel_eq i) := rfl

/-- What a copy between slots leaves. -/
theorem land_read (p : Fin 4) (s s' : Fin 2) (fd : (slotV p s').ty.Contents (Elt F)) (fs : (slotV p s).ty.Contents (Elt F)) :
    (slotV p s').read (Elt F) ((slot p s').view.write (Elt F) fd ((slot p s).view.read (Elt F) fs) Finset.univ) = (slotV p s).read (Elt F) fs := by
  funext x
  obtain ⟨i, rfl⟩ := (Shape.reshapeEquiv squeezes_S1x512x2048_S512x2048.numel_eq).surjective x
  have h : (slot p s').view.read (Elt F) ((slot p s').view.write (Elt F) fd ((slot p s).view.read (Elt F) fs) Finset.univ) i
      = (slot p s).view.read (Elt F) fs i := congrFun (View.read_write_univ _ _) i
  exact h

theorem slot_nonempty (p : Fin 4) (s : Fin 2) : Finset.Nonempty (slotV p s).set := View.set_nonempty (by decide)

abbrev accV (p : Fin 4) : View sig .tc .vmem S512x2048 .f32 := (acc p).access accRect

theorem accRect_emb (x : S512x2048.Idx) : accRect.emb x = x := by
  funext a
  apply Fin.ext
  match a with
  | ⟨0, _⟩ => show 0 + 1 * (x 0).val = (x 0).val; omega
  | ⟨1, _⟩ => show 0 + 1 * (x 1).val = (x 1).val; omega

theorem acc_read (p : Fin 4) (f : (accV p).ty.Contents (Elt F)) : (accV p).read (Elt F) f = (acc p).view.read (Elt F) f := by
  funext x
  show _root_.cast _ (f ((acc p).view.emb (accRect.emb x))) = _root_.cast _ (f ((acc p).view.emb x))
  rw [accRect_emb]

theorem acc_set (p : Fin 4) : (accV p).set = (acc p).view.set := by
  ext i
  constructor
  · intro h
    obtain ⟨x, -, rfl⟩ := Finset.mem_map.mp h
    exact Finset.mem_map.mpr ⟨accRect.emb x, Finset.mem_univ _, rfl⟩
  · intro h
    obtain ⟨x, -, rfl⟩ := Finset.mem_map.mp h
    refine Finset.mem_map.mpr ⟨x, Finset.mem_univ _, ?_⟩
    show (acc p).view.emb (accRect.emb x) = _
    rw [accRect_emb]

/-! ## Halves of a slot -/

theorem slotAt_split (c : Dev nD) (p : Fin 4) (s : Fin 2) (v : FVec F S1x512x2048 .bf16) :
    slotAt c p s fullShare v ⊢ iprop(slotAt c p s fullShare.left v ∗ slotAt c p s fullShare.right v : sProp 𝕄) := by
  unfold slotAt
  iintro ⟨%f, %hf, H⟩
  ihave H := (pointsTo_share (Part.eq_some_iff.mp (PosShare.left_op_right fullShare))).1 $$ H
  icases H with ⟨Hl, Hr⟩
  isplitl [Hl]
  · iexists f; isplitr; · (ipureintro; exact hf)
    iexact Hl
  · iexists f; isplitr; · (ipureintro; exact hf)
    iexact Hr

theorem slotAt_join (c : Dev nD) (p : Fin 4) (s : Fin 2) (v v' : FVec F S1x512x2048 .bf16) :
    iprop(slotAt c p s fullShare.left v ∗ slotAt c p s fullShare.right v') ⊢ (slotAt c p s fullShare v : sProp 𝕄) := by
  unfold slotAt
  iintro ⟨⟨%f, %hf, Hl⟩, ⟨%g, %hg, Hr⟩⟩
  ihave H := (persistent_entails_right (pointsTo_agree (q₁ := fullShare.left) (q₂ := fullShare.right) (f := f) (g := g))) $$ [Hl Hr]
  · isplitl [Hl] <;> iassumption
  icases H with ⟨%h, Hl, Hr⟩
  ihave Hr := (Entails.of_eq (pointsTo_congr (fun i hi => ((h i (Finset.mem_inter.mpr ⟨hi, hi⟩)).1).symm))) $$ Hr
  iexists f
  isplitr; · (ipureintro; exact hf)
  iapply (pointsTo_share (Part.eq_some_iff.mp (PosShare.left_op_right fullShare))).2
  isplitl [Hl] <;> iassumption

theorem slotAt_any (c : Dev nD) (p : Fin 4) (s : Fin 2) (v : FVec F S1x512x2048 .bf16) :
    slotAt c p s fullShare v ⊢ (slotAny c p s : sProp 𝕄) := by
  unfold slotAt slotAny Release.slot
  iintro ⟨%f, -, H⟩
  iexists f; iexact H

/-! ## Loads and stores -/

theorem wp_loadSlot (c : Dev nD) (p : Fin 4) (s : Fin 2) (q) (v : FVec F S1x512x2048 .bf16) (Q : Vec F S1x512x2048 .bf16 → sProp 𝕄) :
    slotAt c p s q v ⊢ iprop((slotAt c p s q v -∗ Q v) -∗ wpc c (loadSlot p s) Q) := by
  unfold slotAt loadSlot
  iintro ⟨%f, %hf, H⟩ Hk
  iapply (wp_load_rect 𝒱₀ (c : Thread nD τ) none Set.univ (m := comm p) (r := slotRect s) (Finset.Subset.refl _)) $$ H
  iintro H
  rw [wp_ret]; imodintro
  subst hf
  iapply Hk
  iexists f; isplitr; · (ipureintro; rfl)
  iexact H

theorem wp_loadSlot_any (c : Dev nD) (p : Fin 4) (s : Fin 2) (Q : Vec F S1x512x2048 .bf16 → sProp 𝕄) :
    slotAny c p s ⊢ iprop((∀ v, slotAny c p s -∗ Q v) -∗ wpc c (loadSlot p s) Q) := by
  unfold slotAny Release.slot loadSlot
  iintro ⟨%f, H⟩ Hk
  iapply (wp_load_rect 𝒱₀ (c : Thread nD τ) none Set.univ (m := comm p) (r := slotRect s) (Finset.Subset.refl _)) $$ H
  iintro H
  rw [wp_ret]; imodintro
  iapply Hk
  iexists f; iexact H

theorem wp_storeSlot (c : Dev nD) (p : Fin 4) (s : Fin 2) (v : FVec F S1x512x2048 .bf16) (Q : PUnit → sProp 𝕄) :
    slotAny c p s ⊢ iprop((slotAt c p s fullShare v -∗ Q ⟨⟩) -∗ wpc c (storeSlot p s v) Q) := by
  unfold slotAny Release.slot slotAt storeSlot
  iintro ⟨%f, H⟩ Hk
  iapply (wp_store 𝒱₀ (c : Thread nD τ) none Set.univ (m := comm p) (r := slotRect s) (Mk := Finset.univ) (by rw [View.setOn_univ])) $$ H
  iintro H
  rw [wp_ret]; imodintro
  iapply Hk
  iexists _; isplitr
  on_goal 2 => iexact H
  ipureintro; exact View.read_write_univ _ _

theorem wp_loadAcc (c : Dev nD) (p : Fin 4) (v : FVec F S512x2048 .f32) (Q : Vec F S512x2048 .f32 → sProp 𝕄) :
    accAt c p v ⊢ iprop((accAt c p v -∗ Q v) -∗ wpc c (loadAcc p) Q) := by
  unfold accAt loadAcc
  iintro ⟨%f, %hf, H⟩ Hk
  iapply (wp_load_rect 𝒱₀ (c : Thread nD τ) none Set.univ (m := acc p) (r := accRect) (Finset.subset_of_eq (acc_set p))) $$ H
  iintro H
  rw [wp_ret]; imodintro
  rw [show ((acc p).access accRect).read (Elt F) f = v from (acc_read p f).trans hf]
  iapply Hk
  iexists f; isplitr; · (ipureintro; exact hf)
  iexact H

theorem wp_storeAcc (c : Dev nD) (p : Fin 4) (v : FVec F S512x2048 .f32) (Q : PUnit → sProp 𝕄) :
    accAny c p ⊢ iprop((accAt c p v -∗ Q ⟨⟩) -∗ wpc c (storeAcc p v) Q) := by
  unfold accAny accAt storeAcc
  iintro ⟨%u, %f, -, H⟩ Hk
  iapply (wp_store 𝒱₀ (c : Thread nD τ) none Set.univ (m := acc p) (r := accRect) (Mk := Finset.univ) (by rw [View.setOn_univ, acc_set])) $$ H
  iintro H
  rw [wp_ret]; imodintro
  iapply Hk
  iexists _; isplitr
  on_goal 2 => iexact H
  ipureintro; rw [← acc_read]; exact View.read_write_univ _ _

variable (I : Inputs F)

/-- The staged operands of device `c`. -/
def xw (c : Dev nD) : sProp 𝕄 :=
  iprop((xM.view.loc (c : Thread nD τ) ↦{fullShare} (I.x c : Buf (Elt F) (xM.view.loc (c : Thread nD τ))))
    ∗ (wM.view.loc (c : Thread nD τ) ↦{fullShare} (I.w c : Buf (Elt F) (wM.view.loc (c : Thread nD τ)))))

theorem wp_loadX (c : Dev nD) (off) (hoff) (Q : Vec F S512x512 .fp8e4m3 → sProp 𝕄) :
    xw I c ⊢ iprop((xw I c -∗ Q (I.rows c off hoff)) -∗ wpc c (loadX off hoff) Q) := by
  unfold xw loadX
  iintro ⟨Hx, Hw⟩ Hk
  iapply (wp_load 𝒱₀ (c : Thread nD τ) none Set.univ (m := xM) (Finset.subset_univ _)) $$ Hx
  iintro Hx
  rw [wp_ret]; imodintro
  unfold Inputs.rows
  iapply Hk
  isplitl [Hx] <;> iassumption

theorem wp_loadW (c : Dev nD) (p : Fin 4) (Q : Vec F S512x2048 .fp8e4m3 → sProp 𝕄) :
    xw I c ⊢ iprop((xw I c -∗ Q (I.cols c p)) -∗ wpc c (loadW p) Q) := by
  unfold xw loadW
  iintro ⟨Hx, Hw⟩ Hk
  iapply (wp_load 𝒱₀ (c : Thread nD τ) none Set.univ (m := wM) (Finset.subset_univ _)) $$ Hw
  iintro Hw
  rw [wp_ret]; imodintro
  unfold Inputs.cols
  iapply Hk
  isplitl [Hx] <;> iassumption

/-! ## The computing steps -/

theorem wp_seed (c : Dev nD) (p : Fin 4) (Q : PUnit → sProp 𝕄) :
    iprop(slotAny c p 0 ∗ xw I c) ⊢ iprop(((slotAt c p 0 fullShare (I.val 0 c p) ∗ xw I c) -∗ Q ⟨⟩) -∗ wpc c (seed c p) Q) := by
  unfold seed
  simp only [wpc_bind]
  iintro ⟨Hs, Hx⟩ Hk
  iapply (wp_loadX I c _ _ _) $$ Hx; iintro Hx
  iapply (wp_loadW I c p _) $$ Hx; iintro Hx
  iapply (wp_loadSlot_any c p 0 _) $$ Hs; iintro %v Hs
  iapply (wp_storeSlot c p 0 _ _) $$ Hs; iintro Hs
  iapply Hk
  isplitl [Hs]
  · iexact Hs
  iexact Hx

theorem wp_compute (c : Dev nD) (k : Fin 7) (p : Fin 4) (Q : PUnit → sProp 𝕄) :
    iprop(accAny c p ∗ xw I c) ⊢ iprop(((accAt c p (I.part c k p) ∗ xw I c) -∗ Q ⟨⟩) -∗ wpc c (compute c k p) Q) := by
  unfold compute
  simp only [wpc_bind]
  iintro ⟨Ha, Hx⟩ Hk
  iapply (wp_loadX I c _ _ _) $$ Hx; iintro Hx
  iapply (wp_loadW I c p _) $$ Hx; iintro Hx
  unfold accAny
  icases Ha with ⟨%u, Ha⟩
  iapply (wp_loadAcc c p u _) $$ Ha; iintro Ha
  ihave Ha := (show accAt c p u ⊢ (accAny c p : sProp 𝕄) from by unfold accAny; iintro H; iexists u; iexact H) $$ Ha
  iapply (wp_storeAcc c p _ _) $$ Ha; iintro Ha
  iapply Hk
  isplitl [Ha]
  · iexact Ha
  iexact Hx

theorem wp_addUp (c : Dev nD) (h : ℕ) (p : Fin 4) (v : FVec F S1x512x2048 .bf16) (u : FVec F S512x2048 .f32) (Q : PUnit → sProp 𝕄) :
    iprop(slotAt c p (rs h) fullShare v ∗ accAt c p u)
      ⊢ iprop(((slotAt c p (rs h) fullShare (sumOf v u) ∗ accAny c p) -∗ Q ⟨⟩) -∗ wpc c (addUp h p) Q) := by
  unfold addUp
  simp only [wpc_bind]
  iintro ⟨Hs, Ha⟩ Hk
  iapply (wp_loadSlot c p (rs h) _ v _) $$ Hs; iintro Hs
  iapply (wp_loadAcc c p u _) $$ Ha; iintro Ha
  iapply (wp_loadSlot c p (rs h) _ v _) $$ Hs; iintro Hs
  ihave Hs := (slotAt_any c p (rs h) v) $$ Hs
  iapply (wp_storeSlot c p (rs h) _ _) $$ Hs; iintro Hs
  iapply Hk
  isplitl [Hs]; · iexact Hs
  unfold accAny
  iexists u; iexact Ha

end Cert.KernelIdeal.Pipes

end
-- ==== Proof.Ops.lean ====
/- What each synchronising operation of the body does: the pieces of state that a pipe carries from hop to hop and,
per operation, how it changes them. -/
module

public import proofs.«01_k».proof.Proof.Mem

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The standing facts -/

/-- The semaphores of the protocol that live in the kernel's scope: credits, then departures, landings, outputs. -/
def osem (i : Fin 24) : SemLoc sig :=
  if i.val < 4 then .reg ⟨i.val % 5, Nat.mod_lt _ (by decide)⟩ else .dma ⟨i.val, i.isLt⟩

/-- All the semaphores of the protocol, the barrier last. -/
def csem (i : Fin 25) : SemLoc sig := if h : i.val < 24 then osem ⟨i.val, h⟩ else .reg barSem

abbrev kcell (x : Dev nD × Fin 25) : GSem nD τ sig := ((x.1 : Thread nD τ), csem x.2)

/-- The names the invariants are allocated at. -/
structure Names where
  cell : Dev nD × Fin 25 → ℕ
  slot : Key → ℕ

variable (I : Inputs F) (K : Names)

/-- The invariants of all cells and all slots, and the levels. -/
def recs : sProp 𝕄 :=
  iprop((bigSep Finset.univ fun x => cellInv ER (sched I) (K.cell x) (kcell x))
    ∗ (bigSep Finset.univ fun k : Key => Release.slotInv EK (K.slot k) k (slotAny k.1 k.2.1 k.2.2))
    ∗ (bigSep Finset.univ fun x => reached ER (kcell x) 0) ∗ levAts L lv)

instance recs_persistent : BI.Persistent (recs I K) := by unfold recs; infer_instance

theorem recs_cell (c : Dev nD) (i : Fin 25) (sm : SemLoc sig) (h : csem i = sm) :
    recs I K ⊢ cellInv ER (sched I) (K.cell (c, i)) ((c : Thread nD τ), sm) := by
  subst h
  unfold recs
  iintro ⟨H, -, -, -⟩
  iapply (bigSep_one (Φ := fun x => cellInv ER (sched I) (K.cell x) (kcell x)) (Finset.mem_univ (c, i))); iexact H

theorem recs_slot (c : Dev nD) (p : Fin 4) (s : Fin 2) :
    recs I K ⊢ Release.slotInv EK (K.slot (c, p, s)) (c, p, s) (slotAny c p s) := by
  unfold recs
  iintro ⟨-, H, -, -⟩
  iapply (bigSep_one (Φ := fun k : Key => Release.slotInv EK (K.slot k) k (slotAny k.1 k.2.1 k.2.2)) (Finset.mem_univ (c, p, s))); iexact H

theorem recs_reached (c : Dev nD) (i : Fin 25) (sm : SemLoc sig) (h : csem i = sm) :
    recs I K ⊢ (reached ER ((c : Thread nD τ), sm) 0 : sProp 𝕄) := by
  subst h
  unfold recs
  iintro ⟨-, -, H, -⟩
  iapply (bigSep_one (Φ := fun x => reached ER (kcell x) 0) (Finset.mem_univ (c, i))); iexact H

theorem recs_lev : recs I K ⊢ (levAts L lv : sProp 𝕄) := by
  unfold recs
  iintro ⟨-, -, -, H⟩
  iexact H

/-- The place of each semaphore in the list. -/
abbrev ixB : Fin 25 := 24
def ixC (p : Fin 4) : Fin 25 := ⟨p.val, by omega⟩
def ixS (p : Fin 4) (s : Fin 2) : Fin 25 := ⟨4 + 2 * p.val + s.val, by omega⟩
def ixR (p : Fin 4) (s : Fin 2) : Fin 25 := ⟨12 + 2 * p.val + s.val, by omega⟩
def ixO (p : Fin 4) : Fin 25 := ⟨20 + p.val, by omega⟩

theorem csem_B : csem ixB = .reg barSem := by decide
theorem csem_C (p : Fin 4) : csem (ixC p) = .reg (creditSem p) := by revert p; decide
theorem csem_S (p : Fin 4) (s : Fin 2) : csem (ixS p s) = .dma (sendSem p s) := by revert p s; decide
theorem csem_R (p : Fin 4) (s : Fin 2) : csem (ixR p s) = .dma (recvSem p s) := by revert p s; decide
theorem csem_O (p : Fin 4) : csem (ixO p) = .dma (outSem p) := by revert p; decide

/-! ## What a device owes -/

/-- What device `c` still owes, whatever it has waited for. -/
def owesL (c : Dev nD) (l : List Due) : sProp 𝕄 := iprop(∃ W : Waits sig ℕ, owes (c : Thread nD τ) (tal l) W)

/-! ## Positions and tokens -/

/-- Device `c`'s departures of pipe `p` before hop `h`. -/
def sendPos (c : Dev nD) (p : Fin 4) (h : ℕ) : sProp 𝕄 :=
  iprop((atPos ER (sendCell c p (ss h)) (h / 2) ∅ 0 ∗ reached ER (sendCell c p (ss h)) (h / 2))
    ∗ (atPos ER (sendCell c p (rs h)) ((h + 1) / 2) ∅ 0 ∗ reached ER (sendCell c p (rs h)) ((h + 1) / 2)))

/-- Device `c`'s landings of pipe `p` before hop `h`. -/
def recvPos (c : Dev nD) (p : Fin 4) (h : ℕ) : sProp 𝕄 :=
  iprop((atPos ER (recvCell c p (rs h)) (h / 2) ∅ 0 ∗ reached ER (recvCell c p (rs h)) (h / 2))
    ∗ (atPos ER (recvCell c p (ss h)) ((h + 1) / 2) ∅ 0 ∗ reached ER (recvCell c p (ss h)) ((h + 1) / 2)))

/-- Device `c`'s counts of the slots it has freed before hop `h`'s release. -/
def readers (c : Dev nD) (p : Fin 4) (h : ℕ) : sProp 𝕄 :=
  iprop(Release.readerAt EK (c, p, ss h) ((h + 1) / 2) ∗ Release.readerAt EK (c, p, rs h) (h / 2 + 1))

/-- What device `c` needs for hop `k`'s copy. -/
def hopTok (c : Dev nD) (p : Fin 4) (k : ℕ) : sProp 𝕄 :=
  iprop(dutyTok ER (sendCell c p (ss k)) (k / 2) 0 ∗ dutyTok ER (recvCell (dest c p) p (rs k)) (k / 2) 0
    ∗ Release.writeTok EK (dest c p, p, rs k) (k / 2 + 1) ∗ cred (tallyAt (recvCell c p (rs k)) (ixRecv k) N))

/-- What device `c` needs to give credit `k`. -/
def giveTok (c : Dev nD) (p : Fin 4) (k : ℕ) : sProp 𝕄 := dutyTok ER (credCell (upst c p) p) 0 k

/-- What device `c` needs to take a credit for the `k`-th time. -/
def takeTok (c : Dev nD) (p : Fin 4) (k : ℕ) : sProp 𝕄 := cred (tallyAt (credCell c p) (ixCred k) 1)

/-- What device `c` has heard by credits before hop `h`'s. -/
def credPos (c : Dev nD) (p : Fin 4) (h : ℕ) : sProp 𝕄 :=
  iprop(∃ T : Finset ℕ, ⌜T ⊆ Finset.range 13 ∧ h - 1 ≤ T.card⌝ ∗ atPos ER (credCell c p) 0 T (h - 1)
    ∗ bigSep T fun d => freed (dest c p) p (d + 1))

/-- Device `c`'s result columns of pipe `p` after `j` flushes. -/
def outPos (c : Dev nD) (p : Fin 4) (j : ℕ) : sProp 𝕄 :=
  iprop(atPos ER (outCell c p) j ∅ 0 ∗ reached ER (outCell c p) j ∗ (bigSep (Finset.Ico j 8) fun k => dutyTok ER (outCell c p) k 0)
    ∗ (bigSep (Finset.range j) fun k => tileAt c (blk c k p) p (I.out c)) ∗ bigSep (Finset.Ico j 8) fun k => tileAny c (blk c k p) p)

/-! ## Sending -/

theorem duties_send (c : Dev nD) (p : Fin 4) (s : Fin 2) (r : ℕ) (hr : r < 7) : (sched I).duties (sendCell c p s) r = {0} := by
  rw [duties_eq, role_send]; exact if_pos hr
theorem duties_recv (c : Dev nD) (p : Fin 4) (s : Fin 2) (r : ℕ) (hr : r < 7) : (sched I).duties (recvCell c p s) r = {0} := by
  rw [duties_eq, role_recv]; exact if_pos hr
theorem duties_out (c : Dev nD) (p : Fin 4) (r : ℕ) (hr : r < 8) : (sched I).duties (outCell c p) r = {0} := by
  rw [duties_eq, role_out]; exact if_pos hr
theorem duties_cred (c : Dev nD) (p : Fin 4) : (sched I).duties (credCell c p) 0 = Finset.range 13 := by
  rw [duties_eq, role_cred]; rfl
theorem duties_bar (c : Dev nD) : (sched I).duties (barCell c) 0 = {0, 1} := by
  rw [duties_eq, role_bar]; rfl

theorem expect_send (c : Dev nD) (p : Fin 4) (s : Fin 2) (r : ℕ) (hr : r < 7) : (sched I).expect (sendCell c p s) r = N := by
  rw [expect_eq, role_send]; show (if r < 7 then _ else _ : Finset ℕ).card * N = N
  rw [if_pos hr, Finset.card_singleton, Nat.one_mul]
theorem expect_recv (c : Dev nD) (p : Fin 4) (s : Fin 2) (r : ℕ) (hr : r < 7) : (sched I).expect (recvCell c p s) r = N := by
  rw [expect_eq, role_recv]; show (if r < 7 then _ else _ : Finset ℕ).card * N = N
  rw [if_pos hr, Finset.card_singleton, Nat.one_mul]
theorem expect_out (c : Dev nD) (p : Fin 4) (r : ℕ) (hr : r < 8) : (sched I).expect (outCell c p) r = NO := by
  rw [expect_eq, role_out]; show (if r < 8 then _ else _ : Finset ℕ).card * NO = NO
  rw [if_pos hr, Finset.card_singleton, Nat.one_mul]
theorem expect_cred (c : Dev nD) (p : Fin 4) : (sched I).expect (credCell c p) 0 = 13 := by
  rw [expect_eq, role_cred]; rfl
theorem expect_bar (c : Dev nD) : (sched I).expect (barCell c) 0 = 2 := by
  rw [expect_eq, role_bar]; rfl

theorem payload_send (c : Dev nD) (p : Fin 4) (s : Fin 2) (r d : ℕ) :
    (sched I).payload (sendCell c p s) r d = slotAt c p s fullShare.left (I.val (2 * r + s.val) c p) := by
  rw [payload_eq, role_send]; rfl
theorem payload_recv (c : Dev nD) (p : Fin 4) (s : Fin 2) (r d : ℕ) :
    (sched I).payload (recvCell c p s) r d = slotAt c p s fullShare (I.val (2 * r + (1 - s.val)) (upst c p) p) := by
  rw [payload_eq, role_recv]; rfl
theorem payload_out (c : Dev nD) (p : Fin 4) (r d : ℕ) :
    (sched I).payload (outCell c p) r d = iprop(accAny c p ∗ tileAt c (blk c r p) p (I.out c)) := by
  rw [payload_eq, role_out]; rfl
theorem payload_cred (c : Dev nD) (p : Fin 4) (r d : ℕ) : (sched I).payload (credCell c p) r d = freed (dest c p) p (d + 1) := by
  rw [payload_eq, role_cred]; rfl

theorem hop_send (h : ℕ) : 2 * (h / 2) + (ss h).val = h := by show 2 * (h / 2) + h % 2 = h; omega
theorem hop_recv (h : ℕ) : 2 * (h / 2) + (1 - (rs h).val) = h := by show 2 * (h / 2) + (1 - (h + 1) % 2) = h; omega

theorem rest_send (c : Dev nD) (p : Fin 4) (h : ℕ) (hr : h / 2 < 7) :
    bigSep ((sched I).duties (sendCell c p (ss h)) (h / 2) \ ∅) (fun d => (sched I).payload (sendCell c p (ss h)) (h / 2) d)
      = slotAt c p (ss h) fullShare.left (I.val h c p) := by
  rw [Finset.sdiff_empty, duties_send I c p (ss h) _ hr, bigSep_singleton, payload_send, hop_send]
theorem rest_recv (c : Dev nD) (p : Fin 4) (h : ℕ) (hr : h / 2 < 7) :
    bigSep ((sched I).duties (recvCell c p (rs h)) (h / 2) \ ∅) (fun d => (sched I).payload (recvCell c p (rs h)) (h / 2) d)
      = slotAt c p (rs h) fullShare (I.val h (upst c p) p) := by
  rw [Finset.sdiff_empty, duties_recv I c p (rs h) _ hr, bigSep_singleton, payload_recv, hop_recv]
theorem rest_out (c : Dev nD) (p : Fin 4) (j : ℕ) (hr : j < 8) :
    bigSep ((sched I).duties (outCell c p) j \ ∅) (fun d => (sched I).payload (outCell c p) j d)
      = iprop(accAny c p ∗ tileAt c (blk c j p) p (I.out c)) := by
  rw [Finset.sdiff_empty, duties_out I c p _ hr, bigSep_singleton, payload_out]

/-- Hop `h`'s copy: half the slot goes with it, and the slot it writes comes out of its invariant. -/
theorem wp_send (c : Dev nD) (h : ℕ) (hh : h < 14) (p : Fin 4) (l : List Due) (Q : PUnit → sProp 𝕄) :
    iprop(recs I K ∗ slotAt c p (ss h) fullShare (I.val h c p) ∗ hopTok c p h ∗ ready (dest c p) p h
        ∗ reached ER (sendCell c p (ss h)) (h / 2) ∗ owesL c (dueRecv c h p :: l))
      ⊢ iprop(((slotAt c p (ss h) fullShare.right (I.val h c p) ∗ cred (tallyAt (sendCell c p (ss h)) 0 N)
            ∗ cred (tallyAt (recvCell c p (rs h)) (ixRecv h) N) ∗ owesL c l) -∗ Q ⟨⟩) -∗ wpc c (send c h p) Q) := by
  have hr : h / 2 < 7 := by omega
  unfold send hopTok ready owesL
  iintro ⟨#HR, Hs, ⟨Ht1, Ht2, Hw, Hc⟩, ⟨#Hrel, #Hrv⟩, #Hrs, ⟨%W, HO⟩⟩ Hk
  ihave #HI1 := (recs_cell I K c (ixS p (ss h)) _ (csem_S p (ss h))) $$ HR
  ihave #HI2 := (recs_cell I K (dest c p) (ixR p (rs h)) _ (csem_R p (rs h))) $$ HR
  ihave #HI3 := (recs_slot I K (dest c p) p (rs h)) $$ HR
  iapply (fupd_wp _ _ _)
  imod (Release.slot_take EK (Set.mem_univ _) (h / 2 + 1)) $$ [Hw] with Hd
  · isplitr; · iexact HI3
    isplitr; · iexact Hrel
    iexact Hw
  imodintro
  ihave Hs := (slotAt_split c p (ss h) _) $$ Hs
  icases Hs with ⟨Hl, Hr⟩
  unfold slotAny Release.slot
  icases Hd with ⟨%fd, Hd⟩
  unfold slotAt
  icases Hl with ⟨%fs, %hfs, Hl⟩
  iapply (Rounds.wp_send_pointsTo 𝒱₀ ER (sched I) (c : Thread nD τ) none (c' := (dest c p : Thread nD τ)) (src := slot p (ss h)) (dst := slot p (rs h))
      (sS := .dma (sendSem p (ss h))) (sem := .dma (recvSem p (rs h)))
      (q := fullShare.left) (fs := fs) (fd := fd) (r₁ := h / 2) (r₂ := h / 2) (d₁ := 0) (d₂ := 0)
      (by rw [duties_send I c p (ss h) _ hr]; exact Finset.mem_singleton_self _)
      (by rw [duties_recv I (dest c p) p (rs h) _ hr]; exact Finset.mem_singleton_self _)
      (ixRecv h) 0 N (slot_credit p (rs h)) (by rw [amount_eq, role_send]; rfl) (by rw [amount_eq, role_recv]; rfl) (tal l) rfl (W := W)
      (by
        rw [payload_send, hop_send, slot_set]; unfold slotAt
        iintro H; iexists fs; isplitr; · (ipureintro; exact hfs)
        iexact H)
      (by
        rw [payload_recv, hop_recv, upst_dest, slot_set]; unfold slotAt
        iintro H; iexists _; isplitr
        on_goal 2 => iexact H
        ipureintro; exact (land_read p (ss h) (rs h) fd fs).trans hfs)) $$ [Hl Hd HO Ht1 Ht2]
  · isplitr; · iexact HI1
    isplitr; · iexact HI2
    isplitl [Hl]; · rw [slot_set]; iexact Hl
    isplitl [Hd]; · rw [slot_set]; iexact Hd
    isplitl [HO]; · iexact HO
    isplitl [Ht1]; · iexact Ht1
    isplitr; · iexact Hrs
    isplitl [Ht2]; · iexact Ht2
    iexact Hrv
  iintro ⟨Hcs, HO⟩
  rw [wp_ret]; imodintro
  iapply Hk
  isplitl [Hr]; · iexact Hr
  isplitl [Hcs]; · iexact Hcs
  isplitl [Hc]; · iexact Hc
  iexists W; iexact HO

/-- The wait for hop `h`'s departure gives the slot back whole. -/
theorem wp_waitSend (c : Dev nD) (h : ℕ) (hh : h < 14) (p : Fin 4) (l : List Due) (hl : Above 0 l) (Q : PUnit → sProp 𝕄) :
    iprop(recs I K ∗ slotAt c p (ss h) fullShare.right (I.val h c p) ∗ cred (tallyAt (sendCell c p (ss h)) 0 N) ∗ sendPos c p h ∗ owesL c l)
      ⊢ iprop(((slotAt c p (ss h) fullShare (I.val h c p) ∗ sendPos c p (h + 1) ∗ owesL c l) -∗ Q ⟨⟩) -∗ wpc c (waitSend h p) Q) := by
  have hr : h / 2 < 7 := by omega
  unfold waitSend owesL sendPos
  iintro ⟨#HR, Hs, Hc, ⟨⟨Hat, -⟩, ⟨Hat', #Hr'⟩⟩, ⟨%W, HO⟩⟩ Hk
  ihave #HI := (recs_cell I K c (ixS p (ss h)) _ (csem_S p (ss h))) $$ HR
  ihave #HL := (recs_lev I K) $$ HR
  iapply (Rounds.wp_wait_rest_token 𝒱₀ ER (sched I) (c : Thread nD τ) none (κ := K.cell (c, ixS p (ss h)))
      (k' := N) (fun Q' => (wpE_waitDma2_eq 𝒱₀ (c : Thread nD τ) none Set.univ Q').trans (by rw [slot_credit])) (Set.mem_univ _) 0 (O := tal l) (W := W) (R := h / 2) (m := 0) (T := ∅)
      (by rw [Nat.zero_add]; exact (expect_send I c p (ss h) _ hr).symm)) $$ [Hc HO Hat]
  · isplitr; · iexact HI
    isplitl [Hc]; · iexact Hc
    isplitl [HO]; · iexact HO
    isplitr; · iapply (mayWait c (.dma (sendSem p (ss h))) (by decide) hl); iexact HL
    iexact Hat
  iintro ⟨HO, Hat, #Hr, Hpay⟩
  ihave Hpay := (Entails.of_eq (rest_send I c p h hr)) $$ Hpay
  rw [wp_ret]; imodintro
  iapply Hk
  isplitl [Hs Hpay]
  · iapply (slotAt_join c p (ss h) _ (I.val h c p)); isplitl [Hpay] <;> iassumption
  isplitl [Hat Hat']
  · rw [ss_succ, rs_succ, show (h + 1 + 1) / 2 = h / 2 + 1 by omega]
    isplitl [Hat']
    · isplitl [Hat']; · iexact Hat'
      iexact Hr'
    · isplitl [Hat]; · iexact Hat
      iexact Hr
  iexists _; iexact HO

/-- The wait for hop `h`'s landing gives the slot that the device upstream wrote. -/
theorem wp_waitRecv (c : Dev nD) (h : ℕ) (hh : h < 14) (p : Fin 4) (l : List Due) (hl : Above (ixRecv h) l) (Q : PUnit → sProp 𝕄) :
    iprop(recs I K ∗ cred (tallyAt (recvCell c p (rs h)) (ixRecv h) N) ∗ recvPos c p h ∗ owesL c l)
      ⊢ iprop(((slotAt c p (rs h) fullShare (I.val h (upst c p) p) ∗ recvPos c p (h + 1) ∗ owesL c l) -∗ Q ⟨⟩) -∗ wpc c (waitRecv h p) Q) := by
  have hr : h / 2 < 7 := by omega
  unfold waitRecv owesL recvPos
  iintro ⟨#HR, Hc, ⟨⟨Hat, -⟩, ⟨Hat', #Hr'⟩⟩, ⟨%W, HO⟩⟩ Hk
  ihave #HI := (recs_cell I K c (ixR p (rs h)) _ (csem_R p (rs h))) $$ HR
  ihave #HL := (recs_lev I K) $$ HR
  iapply (Rounds.wp_wait_rest_token 𝒱₀ ER (sched I) (c : Thread nD τ) none (κ := K.cell (c, ixR p (rs h)))
      (k' := N) (fun Q' => (wpE_waitDma2_eq 𝒱₀ (c : Thread nD τ) none Set.univ Q').trans (by rw [slot_credit])) (Set.mem_univ _) (ixRecv h) (O := tal l) (W := W) (R := h / 2) (m := 0) (T := ∅)
      (by rw [Nat.zero_add]; exact (expect_recv I c p (rs h) _ hr).symm)) $$ [Hc HO Hat]
  · isplitr; · iexact HI
    isplitl [Hc]; · iexact Hc
    isplitl [HO]; · iexact HO
    isplitr; · iapply (mayWait c (.dma (recvSem p (rs h))) (by show 2 * h + 2 < 64; omega) hl); iexact HL
    iexact Hat
  iintro ⟨HO, Hat, #Hr, Hpay⟩
  ihave Hpay := (Entails.of_eq (rest_recv I c p h hr)) $$ Hpay
  rw [wp_ret]; imodintro
  iapply Hk
  isplitl [Hpay]; · iexact Hpay
  isplitl [Hat Hat']
  · rw [ss_succ, rs_succ, show (h + 1 + 1) / 2 = h / 2 + 1 by omega]
    isplitl [Hat']
    · isplitl [Hat']; · iexact Hat'
      iexact Hr'
    · isplitl [Hat]; · iexact Hat
      iexact Hr
  iexists _; iexact HO

end Cert.KernelIdeal.Pipes

end
-- ==== Proof.Ops2.lean ====
/- What each synchronising operation of the body does, continued: credits, the barrier and the copies to the
result. -/
module

public import proofs.«01_k».proof.Proof.Ops

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Names)

/-! ## Credits -/

theorem freed_succ (c : Dev nD) (p : Fin 4) (n : ℕ) : iprop(freed c p n ∗ ready c p (n + 1)) ⊢ (freed c p (n + 1) : sProp 𝕄) := by
  unfold freed
  rw [bigSep_range_succ]
  iintro ⟨H, H'⟩
  isplitl [H'] <;> iassumption

theorem freed_ready (c : Dev nD) (p : Fin 4) {k n : ℕ} (h : k < n) : freed c p n ⊢ (ready c p (k + 1) : sProp 𝕄) := by
  unfold freed
  exact bigSep_one (Φ := fun k => ready c p (k + 1)) (Finset.mem_range.mpr h)

/-- With `k + 1` credits of the thirteen heard, one speaks for hop `k + 1`. -/
theorem exists_late {S : Finset ℕ} {k : ℕ} (hS : k + 1 ≤ S.card) : ∃ d ∈ S, k ≤ d := by
  by_contra hn
  have : S ⊆ Finset.range k := fun d hd => Finset.mem_range.mpr (by by_contra h; exact hn ⟨d, hd, by omega⟩)
  have := Finset.card_le_card this
  rw [Finset.card_range] at this
  omega

/-- Taking a credit before hop `k + 1`: the slot it writes is free. -/
theorem wp_takeCredit (c : Dev nD) (k : ℕ) (hk : k < 13) (p : Fin 4) (l : List Due) (hl : Above (ixCred k) l) (Q : PUnit → sProp 𝕄) :
    iprop(recs I K ∗ credPos c p (k + 1) ∗ cred (tallyAt (credCell c p) (ixCred k) 1) ∗ owesL c l)
      ⊢ iprop(((credPos c p (k + 2) ∗ ready (dest c p) p (k + 1) ∗ owesL c l) -∗ Q ⟨⟩) -∗ wpc c (semWaitWord (creditSem p) 1#32) Q) := by
  unfold owesL credPos semWaitWord
  iintro ⟨#HR, ⟨%T, %hT, Hat, #HT⟩, Hc, ⟨%W, HO⟩⟩ Hk
  ihave #HI := (recs_cell I K c (ixC p) _ (csem_C p)) $$ HR
  ihave #HL := (recs_lev I K) $$ HR
  iapply (Rounds.wp_wait 𝒱₀ ER (sched I) (c : Thread nD τ) none (κ := K.cell (c, ixC p))
      (k' := 1) (wpE_semWait_eq 𝒱₀ (c : Thread nD τ) none Set.univ) (Set.mem_univ _) (cr := Finsupp.single (ixCred k) 1)
      (O := tal l) (W := W) {(.reg (creditSem p), ixCred k)} (R := 0) (m := k + 1 - 1) (T := T)
      (by rw [Util.total_single]) (image_single_subset (.reg (creditSem p)) (ixCred k) 1)) $$ [Hc HO Hat]
  · isplitr; · iexact HI
    isplitl [Hc]; · iexact Hc
    isplitl [HO]; · iexact HO
    isplitr; · iapply (mayWait c (.reg (creditSem p)) (by show 2 * k + 3 < 64; omega) hl); iexact HL
    iexact Hat
  iintro %S ⟨%hS, HO, Hat, Hpay⟩
  have hS' : S ⊆ Finset.range 13 := by have := hS.2.1; rwa [duties_cred] at this
  have hc : k + 1 ≤ S.card := by
    have h := hS.2.2
    rw [duties_cred, expect_cred, Finset.card_sdiff_of_subset hS', Finset.card_range] at h
    have := Finset.card_le_card hS'
    rw [Finset.card_range] at this
    omega
  ihave Hpay := (Entails.of_eq (bigSep_congr (Φ := fun d => (sched I).payload (credCell c p) 0 d) (Ψ := fun d => freed (dest c p) p (d + 1)) fun d _ => payload_cred I c p 0 d)) $$ Hpay
  icases Hpay with #Hpay
  ihave #HS := (Entails.of_eq (bigSep_part (Φ := fun d => freed (F := F) (dest c p) p (d + 1)) hS.1).symm) $$ []
  · isplitr; · iexact HT
    iexact Hpay
  rw [wp_ret]; imodintro
  iapply Hk
  isplitl [Hat]
  · iexists S
    isplitr; · (ipureintro; exact ⟨hS', hc⟩)
    isplitl [Hat]; · iexact Hat
    iexact HS
  isplitr
  · obtain ⟨d, hd, hkd⟩ := exists_late hc
    iapply (freed_ready (dest c p) p (show k < d + 1 by omega))
    iapply (bigSep_one (Φ := fun d => freed (dest c p) p (d + 1)) hd)
    iexact HS
  iexists _; iexact HO

/-- Giving credit `h`: the slot that hop `h` left from goes into its invariant, and the device upstream is told. -/
theorem wp_giveCredit (c : Dev nD) (h : ℕ) (hh : h < 13) (p : Fin 4) (l : List Due) (Q : PUnit → sProp 𝕄) :
    iprop(recs I K ∗ slotAny c p (ss h) ∗ readers c p h ∗ dutyTok ER (credCell (upst c p) p) 0 h ∗ freed c p h
        ∗ reached ER (recvCell c p (ss h)) ((h + 1) / 2) ∗ owesL c (dueCred c h p :: l))
      ⊢ iprop(((readers c p (h + 1) ∗ freed c p (h + 1) ∗ owesL c l) -∗ Q ⟨⟩) -∗ wpc c (giveCredit c p) Q) := by
  unfold giveCredit owesL readers semSignalWord
  iintro ⟨#HR, Hs, ⟨Hr1, Hr2⟩, Ht, #Hf, #Hv, ⟨%W, HO⟩⟩ Hk
  ihave #HI1 := (recs_cell I K (upst c p) (ixC p) _ (csem_C p)) $$ HR
  ihave #HI2 := (recs_reached I K (upst c p) (ixC p) _ (csem_C p)) $$ HR
  ihave #HI3 := (recs_slot I K c p (ss h)) $$ HR
  iapply (fupd_wp _ _ _)
  imod (Release.slot_release EK (Set.mem_univ _) (Release.slot_slot_false (ℓ := (slotV p (ss h)).loc (c : Thread nD τ)) (I := (slotV p (ss h)).set) (slot_nonempty p (ss h))) ((h + 1) / 2)) $$ [Hs Hr1] with ⟨Hr1, #Hrel⟩
  · isplitr; · iexact HI3
    isplitl [Hr1]; · iexact Hr1
    unfold slotAny; iexact Hs
  imodintro
  ihave #Hf' := (freed_succ c p h) $$ []
  · isplitr; · iexact Hf
    unfold ready; rw [rs_succ]
    isplitr; · iexact Hrel
    iexact Hv
  iapply (Rounds.wp_signal 𝒱₀ ER (sched I) (c : Thread nD τ) none (dst := (upst c p : Thread nD τ)) (κ := K.cell (upst c p, ixC p))
      (r := 0) (d := h) (by rw [duties_cred]; exact Finset.mem_range.mpr hh) ((amount_eq I _ _ _ _).trans (by rw [role_cred]; rfl)) (ixCred h) (tal l) rfl (W := W))
    $$ [HO Ht]
  · isplitr; · iexact HI1
    isplitl [HO]; · iexact HO
    isplitl [Ht]; · iexact Ht
    isplitr; · rw [payload_cred, dest_upst]; iexact Hf'
    iexact HI2
  iintro HO
  rw [wp_ret]; imodintro
  iapply Hk
  isplitl [Hr1 Hr2]
  · rw [ss_succ, rs_succ, show (h + 1 + 1) / 2 = h / 2 + 1 by omega]
    isplitl [Hr2]; · iexact Hr2
    iexact Hr1
  isplitr; · iexact Hf'
  iexists W; iexact HO

/-! ## The barrier -/

theorem wp_barUp (c : Dev nD) (l : List Due) (Q : PUnit → sProp 𝕄) :
    iprop(recs I K ∗ ready c 0 0 ∗ ready c 1 0 ∗ dutyTok ER (barCell (upst c 0)) 0 0 ∗ owesL c ((barCell (upst c 0), ixBar, 1) :: l))
      ⊢ iprop((owesL c l -∗ Q ⟨⟩) -∗ wpc c (semSignalWord (upst c 0) barSem 1#32) Q) := by
  unfold owesL semSignalWord
  iintro ⟨#HR, #H0, #H1, Ht, ⟨%W, HO⟩⟩ Hk
  ihave #HI1 := (recs_cell I K (upst c 0) ixB _ csem_B) $$ HR
  ihave #HI2 := (recs_reached I K (upst c 0) ixB _ csem_B) $$ HR
  iapply (Rounds.wp_signal 𝒱₀ ER (sched I) (c : Thread nD τ) none (dst := (upst c 0 : Thread nD τ)) (κ := K.cell (upst c 0, ixB))
      (r := 0) (d := 0) (by rw [duties_bar]; decide) ((amount_eq I _ _ _ _).trans (by rw [role_bar]; rfl)) ixBar (tal l) rfl (W := W))
    $$ [HO Ht]
  · isplitr; · iexact HI1
    isplitl [HO]; · iexact HO
    isplitl [Ht]; · iexact Ht
    isplitr
    · rw [payload_eq, role_bar]; simp only [payOf, if_true]; rw [dest_one, dest_upst]
      isplitr; · iexact H0
      iexact H1
    iexact HI2
  iintro HO
  rw [wp_ret]; imodintro
  iapply Hk
  iexists W; iexact HO

theorem wp_barDown (c : Dev nD) (l : List Due) (Q : PUnit → sProp 𝕄) :
    iprop(recs I K ∗ ready c 2 0 ∗ ready c 3 0 ∗ dutyTok ER (barCell (dest c 0)) 0 1 ∗ owesL c ((barCell (dest c 0), ixBar, 1) :: l))
      ⊢ iprop((owesL c l -∗ Q ⟨⟩) -∗ wpc c (semSignalWord (dest c 0) barSem 1#32) Q) := by
  unfold owesL semSignalWord
  iintro ⟨#HR, #H0, #H1, Ht, ⟨%W, HO⟩⟩ Hk
  ihave #HI1 := (recs_cell I K (dest c 0) ixB _ csem_B) $$ HR
  ihave #HI2 := (recs_reached I K (dest c 0) ixB _ csem_B) $$ HR
  iapply (Rounds.wp_signal 𝒱₀ ER (sched I) (c : Thread nD τ) none (dst := (dest c 0 : Thread nD τ)) (κ := K.cell (dest c 0, ixB))
      (r := 0) (d := 1) (by rw [duties_bar]; decide) ((amount_eq I _ _ _ _).trans (by rw [role_bar]; rfl)) ixBar (tal l) rfl (W := W))
    $$ [HO Ht]
  · isplitr; · iexact HI1
    isplitl [HO]; · iexact HO
    isplitl [Ht]; · iexact Ht
    isplitr
    · rw [payload_eq, role_bar]; simp only [payOf]; rw [if_neg (by decide), dest_two, dest_three, upst_dest]
      isplitr; · iexact H0
      iexact H1
    iexact HI2
  iintro HO
  rw [wp_ret]; imodintro
  iapply Hk
  iexists W; iexact HO

theorem rest_bar (c : Dev nD) :
    bigSep ((sched I).duties (barCell c) 0 \ ∅) (fun d => (sched I).payload (barCell c) 0 d)
      = iprop((ready (dest c 0) 0 0 ∗ ready (dest c 1) 1 0) ∗ (ready (dest c 2) 2 0 ∗ ready (dest c 3) 3 0)) := by
  rw [Finset.sdiff_empty, duties_bar, bigSep_add (by decide), bigSep_singleton, payload_eq, payload_eq, role_bar]
  simp only [payOf]
  rw [if_pos trivial, if_neg (by decide)]

theorem wp_barWait (c : Dev nD) (l : List Due) (hl : Above 1 l) (Q : PUnit → sProp 𝕄) :
    iprop(recs I K ∗ atPos ER (barCell c) 0 ∅ 0 ∗ cred (tallyAt (barCell c) ixBar 2) ∗ owesL c l)
      ⊢ iprop(((atPos ER (barCell c) 1 ∅ 0 ∗ (ready (dest c 0) 0 0 ∗ ready (dest c 1) 1 0 ∗ ready (dest c 2) 2 0 ∗ ready (dest c 3) 3 0) ∗ owesL c l) -∗ Q ⟨⟩)
          -∗ wpc c (semWaitWord barSem 2#32) Q) := by
  unfold owesL semWaitWord
  iintro ⟨#HR, Hat, Hc, ⟨%W, HO⟩⟩ Hk
  ihave #HI := (recs_cell I K c ixB _ csem_B) $$ HR
  ihave #HL := (recs_lev I K) $$ HR
  iapply (Rounds.wp_wait_rest_token 𝒱₀ ER (sched I) (c : Thread nD τ) none (κ := K.cell (c, ixB))
      (wpE_semWait_eq 𝒱₀ (c : Thread nD τ) none Set.univ) (Set.mem_univ _) ixBar (O := tal l) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barSem) (by decide) hl); iexact HL
    iexact Hat
  iintro ⟨HO, Hat, -, Hpay⟩
  ihave Hpay := (Entails.of_eq (rest_bar I c)) $$ Hpay
  icases Hpay with ⟨⟨H0, H1⟩, H2, H3⟩
  rw [wp_ret]; imodintro
  iapply Hk
  isplitl [Hat]; · iexact Hat
  isplitl [H0 H1 H2 H3]
  · isplitl [H0]; · iexact H0
    isplitl [H1]; · iexact H1
    isplitl [H2] <;> iassumption
  iexists _; iexact HO

/-! ## Copies to the result -/

/-- The copy of an accumulator to a block of the result, and the wait for it. -/
def copyOut (o : Fin 2 → ℕ) (ho : ∀ a, o a + S512x2048.size a ≤ S4096x8192.size a) (p : Fin 4) : P F PUnit := do
  Prog.lift (.enqueueDma (acc p) (.here (outM o ho)) (.dma (outSem p)) (acc_whole p).wordExact (View.wordExact_bits rfl) ⟨Or.inl rfl, trivial⟩)
  Prog.lift (.waitDma2 (outSem p) (acc p) (outM o ho) (acc_whole p).wordExact (View.wordExact_bits rfl))

theorem flush_eq (sc : F .f32) (s : Fin 2) (off : Fin 4 → Fin 2 → ℕ) (hoff : ∀ p a, off p a + S512x2048.size a ≤ S4096x8192.size a) (p : Fin 4) :
    flush sc s off hoff p = (do
      let r ← loadSlot p s
      let _ ← loadAcc p
      storeAcc p (doneOf sc r)
      copyOut (off p) (hoff p) p) := rfl

/-- A tile written with what the result has there is the result's tile. -/
theorem tile_written (c : Dev nD) (b : Fin 8) (p : Fin 4) (g : Vec F S4096x8192 .f32) :
    ((tileM b p).view.loc (c : Thread nD τ) ↦[(tileM b p).view.set]{fullShare} ((tileM b p).view.write (Elt F) g (I.tile c b p) Finset.univ : Buf (Elt F) ((tileM b p).view.loc (c : Thread nD τ))))
      = (tileAt c b p (I.out c) : sProp 𝕄) := by
  unfold tileAt
  refine pointsTo_congr fun i hi => ?_
  obtain ⟨x, -, rfl⟩ := Finset.mem_map.mp hi
  rw [← out_tile]
  exact (View.write_emb_of_mem _ _ (Finset.mem_univ x)).trans rfl

theorem wp_copyOut (c : Dev nD) (j : ℕ) (hj : j < 8) (p : Fin 4) (l : List Due) (hl : Above 0 l) (Q : PUnit → sProp 𝕄) :
    iprop(recs I K ∗ accAt c p (I.tile c (blk c j p) p) ∗ outPos I c p j ∗ owesL c l)
      ⊢ iprop(((accAny c p ∗ outPos I c p (j + 1) ∗ owesL c l) -∗ Q ⟨⟩) -∗ wpc c (copyOut (tileOff (blk c j p) p) (tile_inb (blk c j p) p) p) Q) := by
  unfold copyOut owesL outPos accAt
  rw [bigSep_Ico_succ_bot hj, bigSep_Ico_succ_bot hj]
  simp only [wpc_bind]
  iintro ⟨#HR, ⟨%fs, %hfs, Ha⟩, ⟨Hat, #Hr, ⟨Ht, Hts⟩, Hd, ⟨Hw, Hws⟩⟩, ⟨%W, HO⟩⟩ Hk
  ihave #HI := (recs_cell I K c (ixO p) _ (csem_O p)) $$ HR
  ihave #HL := (recs_lev I K) $$ HR
  unfold tileAny tileAt
  icases Hw with ⟨%fd, Hw⟩
  iapply (Rounds.wp_copy_pointsTo 𝒱₀ ER (sched I) (c : Thread nD τ) none (κ := K.cell (c, ixO p)) (src := acc p) (dst := tileM (blk c j p) p)
      (sem := .dma (outSem p)) (hsrc := (acc_whole p).wordExact) (hdst := View.wordExact_bits rfl) (hsem := ⟨Or.inl rfl, trivial⟩) (q := fullShare) (fs := fs) (fd := fd) (r := j) (d := 0)
      (by rw [duties_out I c p _ hj]; exact Finset.mem_singleton_self _)
      0 NO rfl (by rw [amount_eq, role_out]; rfl)
      (by
        rw [payload_out]
        iintro ⟨Hd, Hs⟩
        isplitl [Hs]
        · unfold accAny accAt; iexists _; iexists fs; isplitr; · (ipureintro; exact hfs)
          iexact Hs
        · iapply (Entails.of_eq (tile_written I c (blk c j p) p fd)); rw [← hfs]; iexact Hd)) $$ [Ha Hw Ht]
  · isplitr; · iexact HI
    isplitl [Ha]; · iexact Ha
    isplitl [Hw]; · iexact Hw
    isplitl [Ht]; · iexact Ht
    iexact Hr
  iintro Hc
  rw [wp_ret]; imodintro
  iapply (Rounds.wp_wait_rest_token 𝒱₀ ER (sched I) (c : Thread nD τ) none (κ := K.cell (c, ixO p))
      (k' := NO) (fun Q' => (wpE_waitDma2_eq 𝒱₀ (c : Thread nD τ) none Set.univ (sem := outSem p) (src := acc p) (dst := tileM (blk c j p) p) (hsrc := (acc_whole p).wordExact) (hdst := View.wordExact_bits rfl) Q').trans (by rw [tile_credit])) (Set.mem_univ _) 0 (O := tal l) (W := W) (R := j) (m := 0) (T := ∅)
      (by rw [Nat.zero_add]; exact (expect_out I c p _ hj).symm)) $$ [Hc HO Hat]
  · isplitr; · iexact HI
    isplitl [Hc]; · iexact Hc
    isplitl [HO]; · iexact HO
    isplitr; · iapply (mayWait c (.dma (outSem p)) (by decide) hl); iexact HL
    iexact Hat
  iintro ⟨HO, Hat, #Hr', Hpay⟩
  ihave Hpay := (Entails.of_eq (rest_out I c p j hj)) $$ Hpay
  icases Hpay with ⟨Ha, Hn⟩
  rw [wp_ret]; imodintro
  iapply Hk
  isplitl [Ha]; · iexact Ha
  isplitl [Hat Hts Hd Hn Hws]
  · isplitl [Hat]; · iexact Hat
    isplitr; · iexact Hr'
    isplitl [Hts]; · iexact Hts
    isplitl [Hd Hn]
    · rw [bigSep_range_succ]; unfold tileAt; isplitl [Hn] <;> iassumption
    iexact Hws
  iexists _; iexact HO

/-- Flush `j`. -/
theorem wp_flush (c : Dev nD) (j : ℕ) (hj : j < 8) (p : Fin 4) (s : Fin 2) (q) (v : FVec F S1x512x2048 .bf16)
    (hv : doneOf (I.sc c) v = I.tile c (blk c j p) p) (off) (hoff) (ho : off p = tileOff (blk c j p) p)
    (l : List Due) (hl : Above 0 l) (Q : PUnit → sProp 𝕄) :
    iprop(recs I K ∗ slotAt c p s q v ∗ accAny c p ∗ outPos I c p j ∗ owesL c l)
      ⊢ iprop(((slotAt c p s q v ∗ accAny c p ∗ outPos I c p (j + 1) ∗ owesL c l) -∗ Q ⟨⟩) -∗ wpc c (flush (I.sc c) s off hoff p) Q) := by
  rw [flush_eq]
  generalize hoff p = hp
  generalize off p = o at ho hp
  subst ho
  simp only [wpc_bind]
  iintro ⟨#HR, Hs, Ha, Ho, HO⟩ Hk
  iapply (wp_loadSlot c p s _ v _) $$ Hs; iintro Hs
  unfold accAny
  icases Ha with ⟨%u, Ha⟩
  iapply (wp_loadAcc c p u _) $$ Ha; iintro Ha
  iapply (wp_storeAcc c p _ _) $$ [Ha]
  · unfold accAny; iexists u; iexact Ha
  iintro Ha
  rw [hv]
  iapply (wp_copyOut I K c j hj p l hl _) $$ [Ha Ho HO]
  · isplitr; · iexact HR
    isplitl [Ha]; · iexact Ha
    isplitl [Ho]; · iexact Ho
    iexact HO
  unfold accAny
  iintro ⟨Ha, Ho, HO⟩
  iapply Hk
  isplitl [Hs]; · iexact Hs
  isplitl [Ha]; · iexact Ha
  isplitl [Ho]; · iexact Ho
  iexact HO

end Cert.KernelIdeal.Pipes

end
-- ==== Proof.Hops.lean ====
/- What a device holds for a pipe between the steps of a hop, and the steps on all four pipes. -/
module

public import proofs.«01_k».proof.Proof.Ops2

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Four pipes at once -/

/-- One thing for each pipe. -/
def all4 {M : Type} [URA M] (A : Fin 4 → sProp M) : sProp M := iprop(A 0 ∗ A 1 ∗ A 2 ∗ A 3)

/-- A step on each pipe in turn, with a state `T` that passes from pipe to pipe. -/
theorem wp_pipes (c : Dev nD) (R : sProp 𝕄) [BI.Persistent R] (A B : Fin 4 → sProp 𝕄) (T : ℕ → sProp 𝕄) (f : Fin 4 → P F PUnit)
    (h : ∀ (p : Fin 4) (Q : PUnit → sProp 𝕄), iprop(R ∗ A p ∗ T p.val) ⊢ iprop(((B p ∗ T (p.val + 1)) -∗ Q ⟨⟩) -∗ wpc c (f p) Q))
    (Q : PUnit → sProp 𝕄) :
    iprop(R ∗ all4 A ∗ T 0) ⊢ iprop(((all4 B ∗ T 4) -∗ Q ⟨⟩) -∗ wpc c (pipes f) Q) := by
  have h0 : ∀ Q : PUnit → sProp 𝕄, iprop(R ∗ A 0 ∗ T 0) ⊢ iprop(((B 0 ∗ T 1) -∗ Q ⟨⟩) -∗ wpc c (f 0) Q) := h 0
  have h1 : ∀ Q : PUnit → sProp 𝕄, iprop(R ∗ A 1 ∗ T 1) ⊢ iprop(((B 1 ∗ T 2) -∗ Q ⟨⟩) -∗ wpc c (f 1) Q) := h 1
  have h2 : ∀ Q : PUnit → sProp 𝕄, iprop(R ∗ A 2 ∗ T 2) ⊢ iprop(((B 2 ∗ T 3) -∗ Q ⟨⟩) -∗ wpc c (f 2) Q) := h 2
  have h3 : ∀ Q : PUnit → sProp 𝕄, iprop(R ∗ A 3 ∗ T 3) ⊢ iprop(((B 3 ∗ T 4) -∗ Q ⟨⟩) -∗ wpc c (f 3) Q) := h 3
  unfold pipes all4
  simp only [wpc_bind]
  iintro ⟨#HR, ⟨H0, H1, H2, H3⟩, HT⟩ Hk
  iapply (h0 _) $$ [H0 HT]
  · isplitr; · iexact HR
    isplitl [H0]; · iexact H0
    iexact HT
  iintro ⟨H0, HT⟩
  iapply (h1 _) $$ [H1 HT]
  · isplitr; · iexact HR
    isplitl [H1]; · iexact H1
    iexact HT
  iintro ⟨H1, HT⟩
  iapply (h2 _) $$ [H2 HT]
  · isplitr; · iexact HR
    isplitl [H2]; · iexact H2
    iexact HT
  iintro ⟨H2, HT⟩
  iapply (h3 _) $$ [H3 HT]
  · isplitr; · iexact HR
    isplitl [H3]; · iexact H3
    iexact HT
  iintro ⟨H3, HT⟩
  iapply Hk
  isplitl [H0 H1 H2 H3]
  · isplitl [H0]; · iexact H0
    isplitl [H1]; · iexact H1
    isplitl [H2]; · iexact H2
    iexact H3
  iexact HT

variable (I : Inputs F) (K : Names)

/-! ## States -/

/-- What is needed to send from hop `h` on. -/
def snd (c : Dev nD) (p : Fin 4) (h : ℕ) : sProp 𝕄 :=
  iprop((bigSep (Finset.Ico h 14) fun k => hopTok c p k) ∗ (bigSep (Finset.Ico (h - 1) 13) fun k => takeTok c p k) ∗ credPos c p h)

/-- What is needed to give credits from hop `h` on. -/
def bk (c : Dev nD) (p : Fin 4) (h : ℕ) : sProp 𝕄 :=
  iprop(readers c p h ∗ (bigSep (Finset.Ico h 13) fun k => giveTok c p k) ∗ freed c p h)

/-- Before hop `h`, with `Y` on the side. -/
def stA (Y : sProp 𝕄) (c : Dev nD) (p : Fin 4) (h : ℕ) : sProp 𝕄 :=
  iprop(slotAt c p (ss h) fullShare (I.val h c p) ∗ Y ∗ sendPos c p h ∗ recvPos c p h ∗ snd c p h ∗ bk c p h)

/-- Hop `h`'s copy has started. -/
def stB (Y : sProp 𝕄) (c : Dev nD) (p : Fin 4) (h : ℕ) : sProp 𝕄 :=
  iprop(slotAt c p (ss h) fullShare.right (I.val h c p) ∗ cred (tallyAt (sendCell c p (ss h)) 0 N) ∗ cred (tallyAt (recvCell c p (rs h)) (ixRecv h) N)
    ∗ Y ∗ sendPos c p h ∗ recvPos c p h ∗ snd c p (h + 1) ∗ bk c p h)

/-- Hop `h`'s copy has left. -/
def stC (Y : sProp 𝕄) (c : Dev nD) (p : Fin 4) (h : ℕ) : sProp 𝕄 :=
  iprop(slotAt c p (ss h) fullShare (I.val h c p) ∗ cred (tallyAt (recvCell c p (rs h)) (ixRecv h) N)
    ∗ Y ∗ sendPos c p (h + 1) ∗ recvPos c p h ∗ snd c p (h + 1) ∗ bk c p h)

/-- The slot that hop `h` left from is given away. -/
def stD (Y : sProp 𝕄) (c : Dev nD) (p : Fin 4) (h : ℕ) : sProp 𝕄 :=
  iprop(cred (tallyAt (recvCell c p (rs h)) (ixRecv h) N) ∗ Y ∗ sendPos c p (h + 1) ∗ recvPos c p h ∗ snd c p (h + 1) ∗ bk c p (h + 1))

theorem sendPos_reached (c : Dev nD) (p : Fin 4) (h : ℕ) :
    sendPos c p h ⊢ iprop(reached ER (sendCell c p (ss h)) (h / 2) ∗ sendPos c p h : sProp 𝕄) := by
  unfold sendPos
  iintro ⟨⟨H, #Hr⟩, H'⟩
  isplitr; · iexact Hr
  isplitl [H]
  · isplitl [H]; · iexact H
    iexact Hr
  iexact H'

theorem recvPos_reached (c : Dev nD) (p : Fin 4) (h : ℕ) :
    recvPos c p h ⊢ iprop(reached ER (recvCell c p (ss h)) ((h + 1) / 2) ∗ recvPos c p h : sProp 𝕄) := by
  unfold recvPos
  iintro ⟨H', ⟨H, #Hr⟩⟩
  isplitr; · iexact Hr
  isplitl [H']; · iexact H'
  isplitl [H]; · iexact H
  iexact Hr

/-! ## Steps on one pipe -/

/-- Hop 0's copy. -/
theorem step_send0 (Y : sProp 𝕄) (c : Dev nD) (p : Fin 4) (l : List Due) (Q : PUnit → sProp 𝕄) :
    iprop(recs I K ∗ (stA I Y c p 0 ∗ ready (dest c p) p 0) ∗ owesL c (dueRecv c 0 p :: l))
      ⊢ iprop(((stB I Y c p 0 ∗ owesL c l) -∗ Q ⟨⟩) -∗ wpc c (send c 0 p) Q) := by
  unfold stA stB snd
  rw [bigSep_Ico_succ_bot (by decide : 0 < 14)]
  iintro ⟨#HR, ⟨⟨Hs, HY, Hsp, Hrp, ⟨⟨Ht, Hts⟩, Htk, Hcp⟩, Hbk⟩, #Hrd⟩, HO⟩ Hk
  ihave Hsp := (sendPos_reached c p 0) $$ Hsp
  icases Hsp with ⟨#Hr, Hsp⟩
  iapply (wp_send I K c 0 (by decide) p l _) $$ [Hs Ht HO]
  · isplitr; · iexact HR
    isplitl [Hs]; · iexact Hs
    isplitl [Ht]; · iexact Ht
    isplitr; · iexact Hrd
    isplitr; · iexact Hr
    iexact HO
  iintro ⟨Hs, Hcs, Hcr, HO⟩
  iapply Hk
  isplitr [HO]
  · isplitl [Hs]; · iexact Hs
    isplitl [Hcs]; · iexact Hcs
    isplitl [Hcr]; · iexact Hcr
    isplitl [HY]; · iexact HY
    isplitl [Hsp]; · iexact Hsp
    isplitl [Hrp]; · iexact Hrp
    isplitr [Hbk]
    · isplitl [Hts]; · iexact Hts
      isplitl [Htk]; · iexact Htk
      iexact Hcp
    iexact Hbk
  iexact HO

/-- Hop `k + 1`'s credit and copy. -/
theorem step_creditSend (Y : sProp 𝕄) (c : Dev nD) (k : ℕ) (hk : k < 13) (p : Fin 4) (l : List Due) (hl : Above (ixCred k) (dueRecv c (k + 1) p :: l))
    (Q : PUnit → sProp 𝕄) :
    iprop(recs I K ∗ stA I Y c p (k + 1) ∗ owesL c (dueRecv c (k + 1) p :: l))
      ⊢ iprop(((stB I Y c p (k + 1) ∗ owesL c l) -∗ Q ⟨⟩) -∗ wpc c (creditSend c (k + 1) p) Q) := by
  unfold stA stB snd creditSend
  rw [bigSep_Ico_succ_bot (by omega : k + 1 < 14), Nat.add_sub_cancel, Nat.add_sub_cancel, bigSep_Ico_succ_bot hk]
  simp only [wpc_bind]
  iintro ⟨#HR, ⟨Hs, HY, Hsp, Hrp, ⟨⟨Ht, Hts⟩, ⟨Htk, Htks⟩, Hcp⟩, Hbk⟩, HO⟩ Hk
  ihave Hsp := (sendPos_reached c p (k + 1)) $$ Hsp
  icases Hsp with ⟨#Hr, Hsp⟩
  iapply (wp_takeCredit I K c k hk p _ hl _) $$ [Hcp Htk HO]
  · isplitr; · iexact HR
    isplitl [Hcp]; · iexact Hcp
    isplitl [Htk]; · unfold takeTok; iexact Htk
    iexact HO
  iintro ⟨Hcp, #Hrd, HO⟩
  iapply (wp_send I K c (k + 1) (by omega) p l _) $$ [Hs Ht HO]
  · isplitr; · iexact HR
    isplitl [Hs]; · iexact Hs
    isplitl [Ht]; · iexact Ht
    isplitr; · iexact Hrd
    isplitr; · iexact Hr
    iexact HO
  iintro ⟨Hs, Hcs, Hcr, HO⟩
  iapply Hk
  isplitr [HO]
  · isplitl [Hs]; · iexact Hs
    isplitl [Hcs]; · iexact Hcs
    isplitl [Hcr]; · iexact Hcr
    isplitl [HY]; · iexact HY
    isplitl [Hsp]; · iexact Hsp
    isplitl [Hrp]; · iexact Hrp
    isplitr [Hbk]
    · isplitl [Hts]; · iexact Hts
      isplitl [Htks]; · iexact Htks
      iexact Hcp
    iexact Hbk
  iexact HO

/-- Hop `k`'s product into the accumulator. -/
theorem step_compute (c : Dev nD) (k : Fin 7) (p : Fin 4) (Z : sProp 𝕄) (Q : PUnit → sProp 𝕄) :
    iprop(recs I K ∗ stB I iprop(accAny c p ∗ Z) c p k.val ∗ xw I c)
      ⊢ iprop(((stB I iprop(accAt c p (I.part c k p) ∗ Z) c p k.val ∗ xw I c) -∗ Q ⟨⟩) -∗ wpc c (compute c k p) Q) := by
  unfold stB
  iintro ⟨-, ⟨Hs, Hcs, Hcr, ⟨Ha, HZ⟩, Hrest⟩, Hx⟩ Hk
  iapply (wp_compute I c k p _) $$ [Ha Hx]
  · isplitl [Ha] <;> iassumption
  iintro ⟨Ha, Hx⟩
  iapply Hk
  isplitr [Hx]
  · isplitl [Hs]; · iexact Hs
    isplitl [Hcs]; · iexact Hcs
    isplitl [Hcr]; · iexact Hcr
    isplitl [Ha HZ]
    · isplitl [Ha] <;> iassumption
    iexact Hrest
  iexact Hx

/-- Hop `h`'s copy has left. -/
theorem step_waitSend (Y : sProp 𝕄) (c : Dev nD) (h : ℕ) (hh : h < 14) (p : Fin 4) (l : List Due) (hl : Above 0 l) (Q : PUnit → sProp 𝕄) :
    iprop(recs I K ∗ stB I Y c p h ∗ owesL c l) ⊢ iprop(((stC I Y c p h ∗ owesL c l) -∗ Q ⟨⟩) -∗ wpc c (waitSend h p) Q) := by
  unfold stB stC
  iintro ⟨#HR, ⟨Hs, Hcs, Hcr, HY, Hsp, Hrest⟩, HO⟩ Hk
  iapply (wp_waitSend I K c h hh p l hl _) $$ [Hs Hcs Hsp HO]
  · isplitr; · iexact HR
    isplitl [Hs]; · iexact Hs
    isplitl [Hcs]; · iexact Hcs
    isplitl [Hsp]; · iexact Hsp
    iexact HO
  iintro ⟨Hs, Hsp, HO⟩
  iapply Hk
  isplitr [HO]
  · isplitl [Hs]; · iexact Hs
    isplitl [Hcr]; · iexact Hcr
    isplitl [HY]; · iexact HY
    isplitl [Hsp]; · iexact Hsp
    iexact Hrest
  iexact HO

/-- Hop `h`'s credit. -/
theorem step_giveCredit (Y : sProp 𝕄) (c : Dev nD) (h : ℕ) (hh : h < 13) (p : Fin 4) (l : List Due) (Q : PUnit → sProp 𝕄) :
    iprop(recs I K ∗ stC I Y c p h ∗ owesL c (dueCred c h p :: l))
      ⊢ iprop(((stD Y c p h ∗ owesL c l) -∗ Q ⟨⟩) -∗ wpc c (giveCredit c p) Q) := by
  unfold stC stD bk
  rw [bigSep_Ico_succ_bot hh]
  iintro ⟨#HR, ⟨Hs, Hcr, HY, Hsp, Hrp, Hsn, ⟨Hrd, ⟨Ht, Hts⟩, Hf⟩⟩, HO⟩ Hk
  ihave Hrp := (recvPos_reached c p h) $$ Hrp
  icases Hrp with ⟨#Hr, Hrp⟩
  ihave Hs := (slotAt_any c p (ss h) _) $$ Hs
  iapply (wp_giveCredit I K c h hh p l _) $$ [Hs Hrd Ht Hf HO]
  · isplitr; · iexact HR
    isplitl [Hs]; · iexact Hs
    isplitl [Hrd]; · iexact Hrd
    isplitl [Ht]; · unfold giveTok; iexact Ht
    isplitl [Hf]; · iexact Hf
    isplitr; · iexact Hr
    iexact HO
  iintro ⟨Hrd, Hf, HO⟩
  iapply Hk
  isplitr [HO]
  · isplitl [Hcr]; · iexact Hcr
    isplitl [HY]; · iexact HY
    isplitl [Hsp]; · iexact Hsp
    isplitl [Hrp]; · iexact Hrp
    isplitl [Hsn]; · iexact Hsn
    isplitl [Hrd]; · iexact Hrd
    isplitl [Hts]; · iexact Hts
    iexact Hf
  iexact HO

/-- Hop `k`'s landing, and the sum. -/
theorem step_recvAdd (c : Dev nD) (k : Fin 7) (p : Fin 4) (Z : sProp 𝕄) (l : List Due) (hl : Above (ixRecv k.val) l) (Q : PUnit → sProp 𝕄) :
    iprop(recs I K ∗ stD iprop(accAt c p (I.part c k p) ∗ Z) c p k.val ∗ owesL c l)
      ⊢ iprop(((stA I iprop(accAny c p ∗ Z) c p (k.val + 1) ∗ owesL c l) -∗ Q ⟨⟩) -∗ wpc c (recvAdd k.val p) Q) := by
  unfold stA stD recvAdd
  simp only [wpc_bind]
  iintro ⟨#HR, ⟨Hcr, ⟨Ha, HZ⟩, Hsp, Hrp, Hrest⟩, HO⟩ Hk
  iapply (wp_waitRecv I K c k.val (by omega) p l hl _) $$ [Hcr Hrp HO]
  · isplitr; · iexact HR
    isplitl [Hcr]; · iexact Hcr
    isplitl [Hrp]; · iexact Hrp
    iexact HO
  iintro ⟨Hs, Hrp, HO⟩
  iapply (wp_addUp c k.val p _ _ _) $$ [Hs Ha]
  · isplitl [Hs] <;> iassumption
  iintro ⟨Hs, Ha⟩
  iapply Hk
  isplitr [HO]
  · isplitl [Hs]; · rw [ss_succ, val_add]; iexact Hs
    isplitl [Ha HZ]
    · isplitl [Ha] <;> iassumption
    isplitl [Hsp]; · iexact Hsp
    isplitl [Hrp]; · iexact Hrp
    iexact Hrest
  iexact HO

/-- The landing of a late hop. -/
theorem step_waitRecv (Y : sProp 𝕄) (c : Dev nD) (h : ℕ) (h7 : 7 ≤ h) (hh : h < 14) (p : Fin 4) (l : List Due) (hl : Above (ixRecv h) l) (Q : PUnit → sProp 𝕄) :
    iprop(recs I K ∗ stD Y c p h ∗ owesL c l)
      ⊢ iprop(((stA I Y c p (h + 1) ∗ owesL c l) -∗ Q ⟨⟩) -∗ wpc c (waitRecv h p) Q) := by
  unfold stA stD
  iintro ⟨#HR, ⟨Hcr, HY, Hsp, Hrp, Hrest⟩, HO⟩ Hk
  iapply (wp_waitRecv I K c h hh p l hl _) $$ [Hcr Hrp HO]
  · isplitr; · iexact HR
    isplitl [Hcr]; · iexact Hcr
    isplitl [Hrp]; · iexact Hrp
    iexact HO
  iintro ⟨Hs, Hrp, HO⟩
  iapply Hk
  isplitr [HO]
  · isplitl [Hs]; · rw [ss_succ, val_pass I c p h h7]; iexact Hs
    isplitl [HY]; · iexact HY
    isplitl [Hsp]; · iexact Hsp
    isplitl [Hrp]; · iexact Hrp
    iexact Hrest
  iexact HO

/-- The flush of a late hop. -/
theorem step_flush (c : Dev nD) (j : ℕ) (hj : j < 7) (p : Fin 4) (off) (hoff) (ho : off p = tileOff (blk c j p) p)
    (l : List Due) (hl : Above 0 l) (Q : PUnit → sProp 𝕄) :
    iprop(recs I K ∗ stB I iprop(accAny c p ∗ outPos I c p j) c p (7 + j) ∗ owesL c l)
      ⊢ iprop(((stB I iprop(accAny c p ∗ outPos I c p (j + 1)) c p (7 + j) ∗ owesL c l) -∗ Q ⟨⟩) -∗ wpc c (flush (I.sc c) (ss (7 + j)) off hoff p) Q) := by
  unfold stB
  iintro ⟨#HR, ⟨Hs, Hcs, Hcr, ⟨Ha, Hp⟩, Hrest⟩, HO⟩ Hk
  iapply (wp_flush I K c j (by omega) p (ss (7 + j)) _ _ (tile_val I c p ⟨j, by omega⟩) off hoff ho l hl _) $$ [Hs Ha Hp HO]
  · isplitr; · iexact HR
    isplitl [Hs]; · iexact Hs
    isplitl [Ha]; · iexact Ha
    isplitl [Hp]; · iexact Hp
    iexact HO
  iintro ⟨Hs, Ha, Hp, HO⟩
  iapply Hk
  isplitr [HO]
  · isplitl [Hs]; · iexact Hs
    isplitl [Hcs]; · iexact Hcs
    isplitl [Hcr]; · iexact Hcr
    isplitl [Ha Hp]
    · isplitl [Ha] <;> iassumption
    iexact Hrest
  iexact HO

end Cert.KernelIdeal.Pipes

end
-- ==== Proof.Split.lean ====
/- The buffers as the body holds them: a communication buffer is its two slots, an accumulator is whole, and the
result is its thirty-two tiles, eight for each pipe in the order in which a device flushes them. -/
module

public import proofs.«01_k».proof.Proof.Hops
public import Idealize.ShloMosaic.Lib.Ring

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Sums over numbers -/

/-- A sum over the first `n` numbers is one over `Fin n`. -/
theorem bigSep_fin {M : Type} [URA M] (n : ℕ) (Φ : ℕ → sProp M) :
    (bigSep (Finset.univ : Finset (Fin n)) fun i => Φ i.val) = bigSep (Finset.range n) Φ := by
  have e : Finset.range n = (Finset.univ : Finset (Fin n)).map Fin.valEmbedding := by
    rw [Fin.map_valEmbedding_univ, Nat.Iio_eq_range]
  rw [e, bigSep_map]
  rfl

/-- A sum over the four pipes. -/
theorem bigSep_pipes {M : Type} [URA M] (Φ : Fin 4 → sProp M) : bigSep Finset.univ Φ = all4 Φ :=
  bigSep_W0 Φ

/-! ## Slots -/

theorem slots_disjoint (p : Fin 4) : Disjoint (slotV p 0).set (slotV p 1).set := by
  show Disjoint ((comm p).view.slice (slotRect 0)).set ((comm p).view.slice (slotRect 1)).set
  rw [View.set_slice, View.set_slice, Finset.disjoint_map, Finset.disjoint_left]
  intro i h0 h1
  have h0 := (Rect.mem_set_unit.mp h0) 0
  have h1 := (Rect.mem_set_unit.mp h1) 0
  have e0 : (i 0).val < 0 + 1 := h0.2
  have e1 : 1 ≤ (i 0).val := h1.1
  omega

theorem slots_cover (p : Fin 4) : (slotV p 0).set ∪ (slotV p 1).set = Finset.univ := by
  show ((comm p).view.slice (slotRect 0)).set ∪ ((comm p).view.slice (slotRect 1)).set = _
  rw [View.set_slice, View.set_slice, ← Finset.map_union]
  have e : (slotRect 0).set ∪ (slotRect 1).set = Finset.univ := by
    refine Finset.eq_univ_of_forall fun i => ?_
    have i0 : (i 0).val < 2 := (i 0).isLt
    have i1 : (i 1).val < 512 := (i 1).isLt
    have i2 : (i 2).val < 2048 := (i 2).isLt
    rw [Finset.mem_union]
    by_cases h : (i 0).val = 0
    · refine .inl (Rect.mem_set_unit.mpr fun a => ?_)
      match a with
      | ⟨0, _⟩ => exact ⟨Nat.zero_le _, show (i 0).val < 0 + 1 by omega⟩
      | ⟨1, _⟩ => exact ⟨Nat.zero_le _, show (i 1).val < 0 + 512 by omega⟩
      | ⟨2, _⟩ => exact ⟨Nat.zero_le _, show (i 2).val < 0 + 2048 by omega⟩
    · refine .inr (Rect.mem_set_unit.mpr fun a => ?_)
      match a with
      | ⟨0, _⟩ => exact ⟨show 1 ≤ (i 0).val by omega, show (i 0).val < 1 + 1 by omega⟩
      | ⟨1, _⟩ => exact ⟨Nat.zero_le _, show (i 1).val < 0 + 512 by omega⟩
      | ⟨2, _⟩ => exact ⟨Nat.zero_le _, show (i 2).val < 0 + 2048 by omega⟩
  rw [e]
  exact (comm_whole p).set_eq_univ

/-- A communication buffer, whole at any contents. -/
def commAny (c : Dev nD) (p : Fin 4) : sProp 𝕄 :=
  iprop(∃ f : Buf (Elt F) ((slotV p 0).loc (c : Thread nD τ)), ((slotV p 0).loc (c : Thread nD τ) ↦{fullShare} f))

theorem comm_split (c : Dev nD) (p : Fin 4) : commAny c p ⊢ (iprop(slotAny c p 0 ∗ slotAny c p 1) : sProp 𝕄) := by
  unfold commAny slotAny Release.slot
  iintro ⟨%f, H⟩
  rw [← slots_cover p]
  ihave H := (pointsTo_union (slots_disjoint p)).1 $$ H
  icases H with ⟨H0, H1⟩
  isplitl [H0]
  · iexists f; iexact H0
  iexists f; iexact H1

theorem comm_join (c : Dev nD) (p : Fin 4) : (iprop(slotAny c p 0 ∗ slotAny c p 1) : sProp 𝕄) ⊢ commAny c p := by
  unfold commAny slotAny Release.slot
  iintro ⟨⟨%f, H0⟩, ⟨%g, H1⟩⟩
  rw [← slots_cover p]
  iexists _
  iapply (pointsTo_join (slots_disjoint p))
  isplitl [H0]
  · iexact H0
  iexact H1

/-! ## Accumulators -/

/-- An accumulator, whole at any contents. -/
def accWhole (c : Dev nD) (p : Fin 4) : sProp 𝕄 :=
  iprop(∃ f : Buf (Elt F) ((acc p).view.loc (c : Thread nD τ)), ((acc p).view.loc (c : Thread nD τ) ↦{fullShare} f))

theorem acc_split (c : Dev nD) (p : Fin 4) : accWhole c p ⊢ (accAny c p : sProp 𝕄) := by
  unfold accWhole accAny accAt
  iintro ⟨%f, H⟩
  rw [(acc_whole p).set_eq_univ]
  iexists _; iexists f
  isplitr; · (ipureintro; rfl)
  iexact H

theorem acc_join (c : Dev nD) (p : Fin 4) : (accAny c p : sProp 𝕄) ⊢ accWhole c p := by
  unfold accWhole accAny accAt
  iintro ⟨%v, %f, -, H⟩
  rw [(acc_whole p).set_eq_univ]
  iexists f
  iexact H

/-! ## Tiles -/

theorem tile_mem (b : Fin 8) (p : Fin 4) (i : S4096x8192.Idx) :
    i ∈ (Rect.unit (s := S4096x8192) (tileOff b p) S512x2048.size (tile_inb b p)).set
      ↔ (i 0).val / 512 = b.val ∧ (i 1).val / 2048 = p.val := by
  rw [Rect.mem_set_unit]
  constructor
  · intro h
    have h0 : 512 * b.val ≤ (i 0).val ∧ (i 0).val < 512 * b.val + 512 := h 0
    have h1 : 2048 * p.val ≤ (i 1).val ∧ (i 1).val < 2048 * p.val + 2048 := h 1
    omega
  · intro h a
    match a with
    | ⟨0, _⟩ => show 512 * b.val ≤ (i 0).val ∧ (i 0).val < 512 * b.val + 512; omega
    | ⟨1, _⟩ => show 2048 * p.val ≤ (i 1).val ∧ (i 1).val < 2048 * p.val + 2048; omega

theorem tile_set (b : Fin 8) (p : Fin 4) :
    (tileM b p).view.set = (Rect.unit (s := S4096x8192) (tileOff b p) S512x2048.size (tile_inb b p)).set :=
  View.set_slice_whole main_v1 _

/-- The result buffer, whole. -/
def resAt (c : Dev nD) (g : Vec F S4096x8192 .f32) : sProp 𝕄 :=
  oM.view.loc (c : Thread nD τ) ↦{fullShare} (g : Buf (Elt F) (oM.view.loc (c : Thread nD τ)))

/-- A pipe's flushes write its eight tiles in some order. -/
def blkEquiv (c : Dev nD) (p : Fin 4) : Fin 8 ≃ Fin 8 :=
  Equiv.ofBijective (fun j => blk c j.val p) (Finite.injective_iff_bijective.mp fun j k h => blk_inj c p j k h)

theorem res_tiles (c : Dev nD) (g : Vec F S4096x8192 .f32) :
    resAt c g = all4 fun p => bigSep (Finset.range 8) fun k => tileAt c (blk c k p) p g := by
  have h : resAt c g = bigSep (Finset.univ : Finset (Fin 4 × Fin 8)) fun x => tileAt c x.2 x.1 g := by
    refine Ring.pointsTo_blocks (ℓ := oM.view.loc (c : Thread nD τ)) (fun x : Fin 4 × Fin 8 => (tileM x.2 x.1).view.set) ?_ ?_ g
    · intro x y hxy
      rw [tile_set, tile_set, Finset.disjoint_left]
      intro i hx hy
      have hx := (tile_mem x.2 x.1 i).mp hx
      have hy := (tile_mem y.2 y.1 i).mp hy
      exact hxy (Prod.ext (Fin.ext (by omega)) (Fin.ext (by omega)))
    · refine Finset.eq_univ_of_forall fun i => ?_
      have h0 : (i 0).val < 4096 := (i 0).isLt
      have h1 : (i 1).val < 8192 := (i 1).isLt
      refine Finset.mem_biUnion.mpr ⟨(⟨(i 1).val / 2048, by omega⟩, ⟨(i 0).val / 512, by omega⟩), Finset.mem_univ _, ?_⟩
      rw [tile_set]
      exact (tile_mem _ _ i).mpr ⟨rfl, rfl⟩
  rw [h, bigSep_univ_prod, ← bigSep_pipes]
  refine bigSep_congr fun p _ => ?_
  rw [← bigSep_fin]
  exact bigSep_univ_equiv (blkEquiv c p) fun b => tileAt c b p g

end Cert.KernelIdeal.Pipes

end
-- ==== Proof.Fund.lean ====
/- The ghost state that the launch mints, and how it is dealt: each device gets the positions of its own semaphores,
the counts of its own slots, and the tokens of the units that it will pay. -/
module

public import proofs.«01_k».proof.Proof.Split

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Sums -/

section Sums

variable {M : Type} [URA M]

/-- A sum over pairs whose second part is below `n`. -/
theorem bigSep_prod_range {A : Type} [Fintype A] (n : ℕ) (Φ : A × ℕ → sProp M) :
    bigSep (Finset.univ ×ˢ Finset.range n) Φ = bigSep Finset.univ fun a => bigSep (Finset.range n) fun j => Φ (a, j) := by
  have e : (Finset.univ ×ˢ Finset.range n : Finset (A × ℕ))
      = (Finset.univ : Finset (A × Fin n)).map ((Function.Embedding.refl A).prodMap Fin.valEmbedding) := by
    ext ⟨a, j⟩
    rw [Finset.mem_product, Finset.mem_map]
    constructor
    · intro h
      exact ⟨(a, ⟨j, Finset.mem_range.mp h.2⟩), Finset.mem_univ _, rfl⟩
    · rintro ⟨⟨b, k⟩, -, h⟩
      cases h
      exact ⟨Finset.mem_univ _, Finset.mem_range.mpr k.isLt⟩
  rw [e, bigSep_map, bigSep_univ_prod]
  exact bigSep_congr fun a _ => bigSep_fin n fun j => Φ (a, j)

/-- The first `m` and the next `n`. -/
theorem bigSep_range_add (m n : ℕ) (Φ : ℕ → sProp M) :
    bigSep (Finset.range (m + n)) Φ = iprop(bigSep (Finset.range m) Φ ∗ bigSep (Finset.range n) fun k => Φ (m + k)) := by
  have e : Finset.range (m + n) = Finset.range m ∪ (Finset.range n).map (addLeftEmbedding m) := by
    ext a
    rw [Finset.mem_union, Finset.mem_map, Finset.mem_range, Finset.mem_range]
    constructor
    · intro h
      by_cases hm : a < m
      · exact .inl hm
      · exact .inr ⟨a - m, Finset.mem_range.mpr (by omega), show m + (a - m) = a by omega⟩
    · rintro (h | ⟨k, hk, rfl⟩)
      · omega
      · have := Finset.mem_range.mp hk
        show m + k < m + n; omega
  have d : Disjoint (Finset.range m) ((Finset.range n).map (addLeftEmbedding m)) := by
    rw [Finset.disjoint_left]
    intro a ha hb
    obtain ⟨k, -, rfl⟩ := Finset.mem_map.mp hb
    have := Finset.mem_range.mp ha
    change m + k < m at this
    omega
  rw [e, bigSep_union d, bigSep_map]
  rfl

/-- The slot that a hop writes, and the slot's how-manieth use it is. -/
def hopEmb : ℕ ↪ Fin 2 × ℕ := ⟨fun k => (rs k, k / 2), fun a b h => by
  have h1 : (a + 1) % 2 = (b + 1) % 2 := congrArg (fun x : Fin 2 × ℕ => x.1.val) h
  have h2 : a / 2 = b / 2 := congrArg Prod.snd h
  omega⟩

theorem hopEmb_range : (Finset.univ ×ˢ Finset.range 7 : Finset (Fin 2 × ℕ)) = (Finset.range 14).map hopEmb := by decide

/-- Seven uses of each of two slots are fourteen hops. -/
theorem bigSep_hops (Φ : Fin 2 × ℕ → sProp M) :
    bigSep (Finset.univ ×ˢ Finset.range 7) Φ = bigSep (Finset.range 14) fun k => Φ (rs k, k / 2) := by
  rw [hopEmb_range, bigSep_map]
  rfl

/-- The six semaphores of a pipe. -/
def sixOf (x : Fin 4 × Fin 6) : Fin 25 := ![ixC x.1, ixS x.1 0, ixS x.1 1, ixR x.1 0, ixR x.1 1, ixO x.1] x.2

def sixEmb : Fin 4 × Fin 6 ↪ Fin 25 := ⟨sixOf, by decide⟩

theorem sixEmb_univ : (Finset.univ : Finset (Fin 25)) = insert ixB ((Finset.univ : Finset (Fin 4 × Fin 6)).map sixEmb) := by decide

theorem sixEmb_bar : ixB ∉ (Finset.univ : Finset (Fin 4 × Fin 6)).map sixEmb := by decide

/-- The semaphores of a device: the barrier, and six for each pipe. -/
theorem bigSep_cells (Φ : SemLoc sig → sProp M) :
    (bigSep Finset.univ fun k : Fin 25 => Φ (csem k))
      = iprop(Φ (.reg barSem) ∗ bigSep Finset.univ fun p : Fin 4 =>
          iprop(Φ (.reg (creditSem p)) ∗ Φ (.dma (sendSem p 0)) ∗ Φ (.dma (sendSem p 1))
            ∗ Φ (.dma (recvSem p 0)) ∗ Φ (.dma (recvSem p 1)) ∗ Φ (.dma (outSem p)))) := by
  rw [sixEmb_univ, bigSep_add sixEmb_bar, bigSep_map, bigSep_univ_prod, csem_B]
  congr 1
  refine bigSep_congr fun p _ => ?_
  rw [bigSep_univ_eq_bigSepL [(0 : Fin 6), 1, 2, 3, 4, 5] (by decide) (by decide), ← csem_C p, ← csem_S p 0, ← csem_S p 1,
    ← csem_R p 0, ← csem_R p 1, ← csem_O p]
  rfl

end Sums

/-! ## Tokens -/

/-- The tokens of pipe `p` of device `c` in one list: fourteen departures, fourteen landings, eight outputs, thirteen
credits, and one unit of the barrier. -/
def tokOf (x : (Dev nD × Fin 4) × ℕ) : GSem nD τ sig × ℕ × ℕ :=
  if x.2 < 14 then (sendCell x.1.1 x.1.2 (ss x.2), x.2 / 2, 0)
  else if x.2 < 28 then (recvCell x.1.1 x.1.2 (rs (x.2 - 14)), (x.2 - 14) / 2, 0)
  else if x.2 < 36 then (outCell x.1.1 x.1.2, x.2 - 28, 0)
  else if x.2 < 49 then (credCell x.1.1 x.1.2, 0, x.2 - 36)
  else (barCell x.1.1, x.2 - 49, x.1.2.val)

/-- Reading a token's place in the list off the token. -/
def tokInv (y : GSem nD τ sig × ℕ × ℕ) : (Dev nD × Fin 4) × ℕ :=
  match roleOf y.1.2 with
  | .send p s => ((y.1.1.1, p), 2 * y.2.1 + s.val)
  | .recv p s => ((y.1.1.1, p), 14 + (2 * y.2.1 + (1 - s.val)))
  | .out p => ((y.1.1.1, p), 28 + y.2.1)
  | .cred p => ((y.1.1.1, p), 36 + y.2.2)
  | _ => ((y.1.1.1, ⟨y.2.2 % 4, Nat.mod_lt _ (by decide)⟩), 49 + y.2.1)

theorem tokInv_tokOf (x : (Dev nD × Fin 4) × ℕ) : tokInv (tokOf x) = x := by
  obtain ⟨⟨c, p⟩, j⟩ := x
  unfold tokOf
  by_cases h1 : j < 14
  · rw [if_pos h1]
    unfold tokInv
    simp only [role_send]
    exact Prod.ext rfl (show 2 * (j / 2) + j % 2 = j by omega)
  by_cases h2 : j < 28
  · rw [if_neg h1, if_pos h2]
    unfold tokInv
    simp only [role_recv]
    exact Prod.ext rfl (show 14 + (2 * ((j - 14) / 2) + (1 - (j - 14 + 1) % 2)) = j by omega)
  by_cases h3 : j < 36
  · rw [if_neg h1, if_neg h2, if_pos h3]
    unfold tokInv
    simp only [role_out]
    exact Prod.ext rfl (show 28 + (j - 28) = j by omega)
  by_cases h4 : j < 49
  · rw [if_neg h1, if_neg h2, if_neg h3, if_pos h4]
    unfold tokInv
    simp only [role_cred]
    exact Prod.ext rfl (show 36 + (j - 36) = j by omega)
  · rw [if_neg h1, if_neg h2, if_neg h3, if_neg h4]
    unfold tokInv
    simp only [role_bar]
    exact Prod.ext (Prod.ext rfl (Fin.ext (show p.val % 4 = p.val by omega))) (show 49 + (j - 49) = j by omega)

theorem tokOf_inj : Function.Injective tokOf := Function.LeftInverse.injective tokInv_tokOf

theorem kcell_inj : Function.Injective kcell := by
  rintro ⟨c, k⟩ ⟨c', k'⟩ h
  have h1 : c = c' := congrArg (fun g : GSem nD τ sig => g.1.1) h
  have h2 : csem k = csem k' := congrArg Prod.snd h
  have h3 : k = k' := (by decide : Function.Injective csem) h2
  rw [h1, h3]

/-- All semaphores of the protocol. -/
def allCells : Finset (GSem nD τ sig) := Finset.univ.map ⟨kcell, kcell_inj⟩
/-- All tokens. -/
def allToks : Finset (GSem nD τ sig × ℕ × ℕ) := (Finset.univ ×ˢ Finset.range 50).map ⟨tokOf, tokOf_inj⟩

/-- The tokens of pipe `p` of device `c`'s own semaphores. -/
def ownToks (c : Dev nD) (p : Fin 4) : sProp 𝕄 :=
  iprop((bigSep (Finset.range 14) fun k => dutyTok ER (sendCell c p (ss k)) (k / 2) 0)
    ∗ (bigSep (Finset.range 14) fun k => dutyTok ER (recvCell c p (rs k)) (k / 2) 0)
    ∗ (bigSep (Finset.range 8) fun k => dutyTok ER (outCell c p) k 0)
    ∗ (bigSep (Finset.range 13) fun k => dutyTok ER (credCell c p) 0 k)
    ∗ dutyTok ER (barCell c) 0 p.val)

/-- A token of the list. -/
def tokAt (x : (Dev nD × Fin 4) × ℕ) : sProp 𝕄 := dutyTok ER (tokOf x).1 (tokOf x).2.1 (tokOf x).2.2

theorem tokAt_send (c : Dev nD) (p : Fin 4) (k : ℕ) (hk : k < 14) :
    (tokAt ((c, p), k) : sProp 𝕄) = dutyTok ER (sendCell c p (ss k)) (k / 2) 0 := by
  unfold tokAt tokOf
  rw [if_pos hk]

theorem tokAt_recv (c : Dev nD) (p : Fin 4) (k : ℕ) (hk : k < 14) :
    (tokAt ((c, p), 14 + k) : sProp 𝕄) = dutyTok ER (recvCell c p (rs k)) (k / 2) 0 := by
  unfold tokAt tokOf
  rw [if_neg (by show ¬ 14 + k < 14; omega), if_pos (by show 14 + k < 28; omega)]
  simp only [Nat.add_sub_cancel_left]

theorem tokAt_out (c : Dev nD) (p : Fin 4) (k : ℕ) (hk : k < 8) :
    (tokAt ((c, p), 14 + (14 + k)) : sProp 𝕄) = dutyTok ER (outCell c p) k 0 := by
  have e : 14 + (14 + k) - 28 = k := by omega
  unfold tokAt tokOf
  rw [if_neg (by show ¬ 14 + (14 + k) < 14; omega), if_neg (by show ¬ 14 + (14 + k) < 28; omega), if_pos (by show 14 + (14 + k) < 36; omega)]
  simp only [e]

theorem tokAt_cred (c : Dev nD) (p : Fin 4) (k : ℕ) (hk : k < 13) :
    (tokAt ((c, p), 14 + (14 + (8 + k))) : sProp 𝕄) = dutyTok ER (credCell c p) 0 k := by
  have e : 14 + (14 + (8 + k)) - 36 = k := by omega
  unfold tokAt tokOf
  rw [if_neg (by show ¬ 14 + (14 + (8 + k)) < 14; omega), if_neg (by show ¬ 14 + (14 + (8 + k)) < 28; omega),
    if_neg (by show ¬ 14 + (14 + (8 + k)) < 36; omega), if_pos (by show 14 + (14 + (8 + k)) < 49; omega)]
  simp only [e]

theorem tokAt_bar (c : Dev nD) (p : Fin 4) : (tokAt ((c, p), 14 + (14 + (8 + (13 + 0)))) : sProp 𝕄) = dutyTok ER (barCell c) 0 p.val := rfl

theorem pipe_toks (c : Dev nD) (p : Fin 4) : (bigSep (Finset.range 50) fun k => tokAt ((c, p), k) : sProp 𝕄) ⊢ ownToks c p := by
  rw [show (50 : ℕ) = 14 + (14 + (8 + (13 + 1))) from rfl]
  simp only [bigSep_range_add]
  rw [bigSep_congr fun k hk => tokAt_send c p k (Finset.mem_range.mp hk), bigSep_congr fun k hk => tokAt_recv c p k (Finset.mem_range.mp hk),
    bigSep_congr fun k hk => tokAt_out c p k (Finset.mem_range.mp hk), bigSep_congr fun k hk => tokAt_cred c p k (Finset.mem_range.mp hk)]
  unfold ownToks
  iintro ⟨H1, H2, H3, H4, H5⟩
  isplitl [H1]; · iexact H1
  isplitl [H2]; · iexact H2
  isplitl [H3]; · iexact H3
  isplitl [H4]; · iexact H4
  ihave H5 := (bigSep_one (Φ := fun k => tokAt ((c, p), 14 + (14 + (8 + (13 + k))))) (Finset.mem_range.mpr Nat.one_pos)) $$ H5
  rw [← tokAt_bar]
  iexact H5

theorem allToks_eq :
    (bigSep allToks fun x => dutyTok ER x.1 x.2.1 x.2.2 : sProp 𝕄) ⊢ bigSep Finset.univ fun c : Dev nD => bigSep Finset.univ fun p : Fin 4 => ownToks c p := by
  unfold allToks
  rw [bigSep_map, bigSep_prod_range, bigSep_univ_prod]
  exact bigSep_mono fun c _ => bigSep_mono fun p _ => pipe_toks c p

/-! ## What each device is dealt -/

/-- What device `c` holds for pipe `p`: the tokens of its copies, of its credits and of its outputs, and the counts of
its slots. -/
def dealt (c : Dev nD) (p : Fin 4) : sProp 𝕄 :=
  iprop((bigSep (Finset.range 14) fun k => dutyTok ER (sendCell c p (ss k)) (k / 2) 0)
    ∗ (bigSep (Finset.range 14) fun k => dutyTok ER (recvCell (dest c p) p (rs k)) (k / 2) 0)
    ∗ (bigSep (Finset.range 8) fun k => dutyTok ER (outCell c p) k 0)
    ∗ (bigSep (Finset.range 13) fun k => giveTok c p k))

/-- The barrier units that device `c` pays. -/
def dealtBar (c : Dev nD) : sProp 𝕄 := iprop(dutyTok ER (barCell (upst c 0)) 0 0 ∗ dutyTok ER (barCell (dest c 0)) 0 1)

/-- The tokens around the ring. -/
theorem deal_toks :
    (bigSep Finset.univ fun c : Dev nD => bigSep Finset.univ fun p : Fin 4 => (ownToks c p : sProp 𝕄))
      ⊢ iprop((bigSep Finset.univ fun c : Dev nD => dealtBar c) ∗ bigSep Finset.univ fun c : Dev nD => bigSep Finset.univ fun p : Fin 4 => dealt c p) := by
  have hr : (bigSep Finset.univ fun c : Dev nD => bigSep Finset.univ fun p : Fin 4 =>
        bigSep (Finset.range 14) fun k => (dutyTok ER (recvCell c p (rs k)) (k / 2) 0 : sProp 𝕄))
      = bigSep Finset.univ fun c : Dev nD => bigSep Finset.univ fun p : Fin 4 =>
        bigSep (Finset.range 14) fun k => (dutyTok ER (recvCell (dest c p) p (rs k)) (k / 2) 0 : sProp 𝕄) := by
    rw [bigSep_univ_comm, bigSep_univ_comm (fun (c : Dev nD) (p : Fin 4) => bigSep (Finset.range 14) fun k => (dutyTok ER (recvCell (dest c p) p (rs k)) (k / 2) 0 : sProp 𝕄))]
    exact bigSep_congr fun p _ => bigSep_univ_equiv (along p) fun c => bigSep (Finset.range 14) fun k => (dutyTok ER (recvCell c p (rs k)) (k / 2) 0 : sProp 𝕄)
  have hc : (bigSep Finset.univ fun c : Dev nD => bigSep Finset.univ fun p : Fin 4 =>
        bigSep (Finset.range 13) fun k => (dutyTok ER (credCell c p) 0 k : sProp 𝕄))
      = bigSep Finset.univ fun c : Dev nD => bigSep Finset.univ fun p : Fin 4 => bigSep (Finset.range 13) fun k => giveTok c p k := by
    rw [bigSep_univ_comm, bigSep_univ_comm (fun (c : Dev nD) (p : Fin 4) => bigSep (Finset.range 13) fun k => giveTok c p k)]
    exact bigSep_congr fun p _ => bigSep_univ_equiv (along p).symm fun c => bigSep (Finset.range 13) fun k => (dutyTok ER (credCell c p) 0 k : sProp 𝕄)
  have hb : (bigSep Finset.univ fun c : Dev nD => bigSep Finset.univ fun p : Fin 4 => (dutyTok ER (barCell c) 0 p.val : sProp 𝕄))
      ⊢ bigSep Finset.univ fun c : Dev nD => dealtBar c := by
    have h1 (c : Dev nD) : (bigSep Finset.univ fun p : Fin 4 => (dutyTok ER (barCell c) 0 p.val : sProp 𝕄))
        ⊢ iprop(dutyTok ER (barCell c) 0 0 ∗ dutyTok ER (barCell c) 0 1) := by
      rw [bigSep_pipes]
      unfold all4
      iintro ⟨H0, H1, -, -⟩
      isplitl [H0]; · iexact H0
      iexact H1
    refine (bigSep_mono fun c _ => h1 c).trans ?_
    · unfold dealtBar
      rw [bigSep_sep', bigSep_sep', bigSep_univ_equiv (along 0).symm (fun c : Dev nD => (dutyTok ER (barCell c) 0 0 : sProp 𝕄)),
        bigSep_univ_equiv (along 0) (fun c : Dev nD => (dutyTok ER (barCell c) 0 1 : sProp 𝕄))]
      exact Entails.refl _
  unfold ownToks dealt
  simp only [bigSep_sep']
  rw [hr, hc]
  iintro ⟨H1, H2, H3, H4, H5⟩
  isplitl [H5]
  · iapply hb; iexact H5
  isplitl [H1]; · iexact H1
  isplitl [H2]; · iexact H2
  isplitl [H3]; · iexact H3
  iexact H4

/-- The counts of device `c`'s slots of pipe `p`, and its turns at the slots that it writes. -/
def dealtSlot (c : Dev nD) (p : Fin 4) : sProp 𝕄 :=
  iprop((Release.readerAt EK (c, p, (0 : Fin 2)) 0 ∗ Release.readerAt EK (c, p, (1 : Fin 2)) 0)
    ∗ bigSep (Finset.range 14) fun k => Release.writeTok EK (dest c p, p, rs k) (k / 2 + 1))

theorem deal_slots :
    iprop((bigSep (Finset.univ : Finset Key) fun k => Release.readerAt EK k 0)
        ∗ bigSep (Finset.univ ×ˢ Finset.range 7 : Finset (Key × ℕ)) fun x => Release.writeTok EK x.1 (x.2 + 1))
      ⊢ (bigSep Finset.univ fun c : Dev nD => bigSep Finset.univ fun p : Fin 4 => dealtSlot c p : sProp 𝕄) := by
  have hw : (bigSep (Finset.univ ×ˢ Finset.range 7 : Finset (Key × ℕ)) fun x => (Release.writeTok EK x.1 (x.2 + 1) : sProp 𝕄))
      = bigSep Finset.univ fun c : Dev nD => bigSep Finset.univ fun p : Fin 4 =>
        bigSep (Finset.range 14) fun k => (Release.writeTok EK (dest c p, p, rs k) (k / 2 + 1) : sProp 𝕄) := by
    rw [bigSep_prod_range, bigSep_univ_prod, bigSep_congr fun (c : Dev nD) _ => bigSep_univ_prod _, bigSep_univ_comm,
      bigSep_univ_comm (fun (c : Dev nD) (p : Fin 4) => bigSep (Finset.range 14) fun k => (Release.writeTok EK (dest c p, p, rs k) (k / 2 + 1) : sProp 𝕄))]
    refine bigSep_congr fun p _ => ?_
    rw [bigSep_univ_equiv (along p)]
    refine bigSep_congr fun c _ => ?_
    rw [← bigSep_hops (fun x : Fin 2 × ℕ => (Release.writeTok EK (dest c p, p, x.1) (x.2 + 1) : sProp 𝕄)), bigSep_prod_range]
    rfl
  have hr : (bigSep (Finset.univ : Finset Key) fun k => (Release.readerAt EK k 0 : sProp 𝕄))
      = bigSep Finset.univ fun c : Dev nD => bigSep Finset.univ fun p : Fin 4 =>
        iprop(Release.readerAt EK (c, p, (0 : Fin 2)) 0 ∗ Release.readerAt EK (c, p, (1 : Fin 2)) 0) := by
    rw [bigSep_univ_prod]
    refine bigSep_congr fun c _ => ?_
    rw [bigSep_univ_prod]
    exact bigSep_congr fun p _ => bigSep_univ_two _
  unfold dealtSlot
  rw [hw, hr]
  simp only [bigSep_sep']
  exact Entails.refl _

end Cert.KernelIdeal.Pipes

end
-- ==== Proof.Alloc.lean ====
/- The invariants at launch: from the ghost state that the launch mints and the semaphores at zero, every device gets
all invariants and its own part of the ghost state. -/
module

public import proofs.«01_k».proof.Proof.Fund

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F)

/-- The ghost state at launch. -/
def u₀ : UU :=
  (initOf (Pipeline.cells cfgs cellOf_inj) (Pipeline.launchToks cfgs cellOf_inj), (initOf allCells allToks, Release.initSlots Finset.univ 7))

/-- Device `c`'s part of the ghost state. -/
def mine (c : Dev nD) : sProp 𝕄 :=
  iprop((bigSep Finset.univ fun k : Fin 25 => atPos ER (kcell (c, k)) 0 ∅ 0) ∗ dealtBar c
    ∗ (bigSep Finset.univ fun p : Fin 4 => dealt c p) ∗ bigSep Finset.univ fun p : Fin 4 => dealtSlot c p)

/-- All slots have their invariants. -/
def slotInvs (s : Key → ℕ) : sProp 𝕄 := bigSep Finset.univ fun k : Key => Release.slotInv EK (s k) k (slotAny k.1 k.2.1 k.2.2)
/-- All semaphores have their invariants. -/
def cellInvs (K : Dev nD × Fin 25 → ℕ) : sProp 𝕄 := bigSep Finset.univ fun x => cellInv ER (sched I) (K x) (kcell x)
/-- All semaphores are in round 0. -/
def reached0 : sProp 𝕄 := bigSep Finset.univ fun x : Dev nD × Fin 25 => reached ER (kcell x) 0

instance slotInvs_persistent (s : Key → ℕ) : BI.Persistent (slotInvs (F := F) s) := by unfold slotInvs; infer_instance
instance cellInvs_persistent (K : Dev nD × Fin 25 → ℕ) : BI.Persistent (cellInvs I K) := by unfold cellInvs; infer_instance
instance reached0_persistent : BI.Persistent (reached0 (F := F)) := by unfold reached0; infer_instance

/-- What a device has from the ghost state alone. -/
def G (c : Dev nD) : sProp 𝕄 :=
  iprop((bigSep Finset.univ fun k : Fin 25 => roundState ER (sched I) (kcell (c, k)) 0) ∗ reached0 ∗ (∃ s, slotInvs s) ∗ mine c)

/-- What a device has once the semaphores' invariants exist. -/
def G' (c : Dev nD) : sProp 𝕄 := iprop(∃ K : Names, cellInvs I K.cell ∗ slotInvs K.slot ∗ reached0 ∗ mine c)

theorem cells_by_dev (Φ : GSem nD τ sig → sProp 𝕄) :
    bigSep allCells Φ = bigSep Finset.univ fun c : Dev nD => bigSep Finset.univ fun k : Fin 25 => Φ (kcell (c, k)) := by
  unfold allCells; rw [bigSep_map, bigSep_univ_prod]; rfl

theorem cells_by_pair (Φ : GSem nD τ sig → sProp 𝕄) : bigSep allCells Φ = bigSep Finset.univ fun x : Dev nD × Fin 25 => Φ (kcell x) := by
  unfold allCells; rw [bigSep_map]; rfl

theorem deal_G : iprop(reached0 ∗ (∃ s, slotInvs s) ∗ (bigSep Finset.univ fun c : Dev nD => bigSep Finset.univ fun k : Fin 25 => roundState ER (sched I) (kcell (c, k)) 0)
      ∗ bigSep Finset.univ fun c : Dev nD => mine c) ⊢ (bigSep Finset.univ (G I) : sProp 𝕄) := by
  iintro ⟨#Hr, ⟨%s, #Hs⟩, Hst, Hm⟩
  have h (c : Dev nD) : iprop((reached0 ∗ slotInvs s) ∗ (bigSep Finset.univ fun k : Fin 25 => roundState ER (sched I) (kcell (c, k)) 0) ∗ mine c) ⊢ (G I c : sProp 𝕄) := by
    unfold G
    iintro ⟨⟨Hr, Hs⟩, Hst, Hm⟩
    isplitl [Hst]; · iexact Hst
    isplitl [Hr]; · iexact Hr
    isplitl [Hs]
    · iexists s; iexact Hs
    iexact Hm
  iapply (bigSep_with_persistent (S := Finset.univ) (R := iprop(reached0 ∗ slotInvs s))
    (Φ := fun c : Dev nD => iprop((bigSep Finset.univ fun k : Fin 25 => roundState ER (sched I) (kcell (c, k)) 0) ∗ mine c)) (Ψ := G I) fun c _ => h c)
  isplitr
  · isplitr; · iexact Hr
    iexact Hs
  rw [bigSep_sep']
  isplitl [Hst]; · iexact Hst
  iexact Hm

theorem fund_all : (ownU u₀ : sProp 𝕄)
    ⊢ |={Set.univ}=> iprop(BI.own (EP (initOf (Pipeline.cells cfgs cellOf_inj) (Pipeline.launchToks cfgs cellOf_inj))) ∗ bigSep Finset.univ (G I)) := by
  unfold u₀
  iintro Hu
  ihave H := (ownU_pair _ _) $$ Hu
  icases H with ⟨HP, HQ⟩
  ihave HQ := (own_pair_emb EQ (initOf allCells allToks) (Release.initSlots Finset.univ 7)) $$ HQ
  icases HQ with ⟨HR, HK⟩
  imod (Rounds.fund ER (sched I) allCells allToks) $$ HR with ⟨Hst, Hr, Hat, Htok⟩
  imod (Release.slots_init EK Finset.univ 7 (fun k : Key => slotAny k.1 k.2.1 k.2.2) (Es := Set.univ)) $$ HK with ⟨%s, -, Hs, Hrd, Hwr⟩
  ihave Htok := allToks_eq $$ Htok
  ihave Htok := deal_toks $$ Htok
  icases Htok with ⟨Hbar, Hpipes⟩
  ihave Hsl := deal_slots $$ [Hrd Hwr]
  · isplitl [Hrd]; · iexact Hrd
    iexact Hwr
  ihave Hst := (Entails.of_eq (cells_by_dev fun g => roundState ER (sched I) g 0)) $$ Hst
  ihave Hr := (Entails.of_eq (cells_by_pair fun g => reached ER g 0)) $$ Hr
  ihave Hat := (Entails.of_eq (cells_by_dev fun g => atPos ER g 0 ∅ 0)) $$ Hat
  imodintro
  isplitl [HP]; · iexact HP
  iapply (deal_G I)
  isplitl [Hr]; · unfold reached0; iexact Hr
  isplitl [Hs]
  · iexists s; unfold slotInvs; iexact Hs
  isplitl [Hst]; · iexact Hst
  unfold mine
  simp only [bigSep_sep']
  isplitl [Hat]; · iexact Hat
  isplitl [Hbar]; · iexact Hbar
  isplitl [Hpipes]; · iexact Hpipes
  iexact Hsl

/-! ## The semaphores -/

theorem cells25 : (Finset.univ : Finset (Fin 25)) = insert ixB ((Finset.univ : Finset (Fin 24)).map Fin.castSuccEmb) := by decide
theorem cells24 : ixB ∉ (Finset.univ : Finset (Fin 24)).map Fin.castSuccEmb := by decide

/-- The semaphores in the kernel's scope, and the barrier, which is outside it. -/
theorem sems_eq (c : Dev nD) :
    (bigSep Finset.univ fun k : Fin 25 => semVal (kcell (c, k)) 0 : sProp 𝕄)
      = iprop(semVal (barCell c) 0 ∗ Pipeline.ownSems0 (Ix := ℕ) (Name := ℕ) (U := UU) (Lvl := ℕ) (Val := Elt F) (τ := τ) osem c) := by
  rw [cells25, bigSep_add cells24, bigSep_map]
  rfl

theorem unscoped_eq (c : Dev nD) : (unscopedSems0 c : sProp 𝕄) = semVal (barCell c) 0 := by
  unfold unscopedSems0
  rw [bigSep_eq_bigSepL_of_eq [SemLoc.reg barSem] (by decide) (by decide)]
  rfl

theorem alloc_dev (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k : Fin 25 => iprop(∃ κ : ℕ, cellInv ER (sched I) κ (kcell (c, k))))
          ∗ reached0 ∗ (∃ s, slotInvs s) ∗ mine c : sProp 𝕄) := by
  unfold G
  rw [unscoped_eq]
  iintro ⟨Hos, Hus, Hst, Hr⟩
  imod (show iprop((bigSep Finset.univ fun k : Fin 25 => semVal (kcell (c, k)) 0) ∗ bigSep Finset.univ fun k : Fin 25 => roundState ER (sched I) (kcell (c, k)) 0)
      ⊢ (|={Set.univ}=> bigSep Finset.univ fun k => iprop(∃ κ : ℕ, cellInv ER (sched I) κ (kcell (c, k))) : sProp 𝕄) from by
        rw [← bigSep_sep']
        exact (bigSep_mono fun k _ => (Rounds.body_intro ER (sched I) (kcell (c, k))).trans inv_alloc).trans (bigSep_fupd _ _)) $$ [Hos Hus Hst] with Hinv
  · isplitl [Hos Hus]
    · rw [sems_eq]
      isplitl [Hus] <;> iassumption
    iexact Hst
  imodintro
  isplitl [Hinv]; · iexact Hinv
  iexact Hr

theorem deal_G' :
    (bigSep Finset.univ fun c : Dev nD => iprop((bigSep Finset.univ fun k : Fin 25 => iprop(∃ κ : ℕ, cellInv ER (sched I) κ (kcell (c, k))))
          ∗ reached0 ∗ (∃ s, slotInvs s) ∗ mine c) : sProp 𝕄) ⊢ bigSep Finset.univ (G' I) := by
  rw [bigSep_sep', ← bigSep_univ_prod (fun x : Dev nD × Fin 25 => iprop(∃ κ : ℕ, cellInv ER (sched I) κ (kcell x)))]
  iintro ⟨HI, H⟩
  ihave HK := (BI.bigSep_exists_pi Finset.univ (fun (x : Dev nD × Fin 25) (κ : ℕ) => (cellInv ER (sched I) κ (kcell x) : sProp 𝕄))) $$ HI
  icases HK with ⟨%K, #HI⟩
  have h (c : Dev nD) : iprop(cellInvs I K ∗ reached0 ∗ (∃ s, slotInvs s) ∗ mine c) ⊢ (G' I c : sProp 𝕄) := by
    unfold G'
    iintro ⟨HI, Hr, ⟨%s, Hs⟩, Hm⟩
    iexists (⟨K, s⟩ : Names)
    isplitl [HI]; · iexact HI
    isplitl [Hs]; · iexact Hs
    isplitl [Hr]; · iexact Hr
    iexact Hm
  iapply (bigSep_with_persistent (S := Finset.univ) (R := cellInvs I K) (Φ := fun c : Dev nD => iprop(reached0 ∗ (∃ s, slotInvs s) ∗ mine c)) (Ψ := G' I) fun c _ => h c)
  isplitr
  · unfold cellInvs; iexact HI
  iexact H

theorem alloc_all :
    (bigSep Finset.univ fun c => iprop(Pipeline.ownSems0 (Ix := ℕ) (Name := ℕ) (U := UU) (Lvl := ℕ) (Val := Elt F) (τ := τ) osem c ∗ unscopedSems0 c ∗ G I c) : sProp 𝕄)
      ⊢ |={Set.univ}=> bigSep Finset.univ (G' I) :=
  ((bigSep_mono fun c _ => alloc_dev I c).trans (bigSep_fupd _ _)).trans (BI.fupd_mono (deal_G' I))

end Cert.KernelIdeal.Pipes

end
-- ==== Proof.Credits.lean ====
/- What the devices owe, sorted by whom they owe it to: the credits that each device starts with. -/
module

public import proofs.«01_k».proof.Proof.Split

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Dues as sums -/

theorem add_five {A : Type} [AddCommMonoid A] (t a b c d : A) : t + d + c + b + a = t + (a + b + c + d) := by
  simp only [add_assoc, add_comm, add_left_comm]
theorem add_four {A : Type} [AddCommMonoid A] (r c a b : A) : r + c + b + a = a + r + (b + c) := by
  simp only [add_assoc, add_comm, add_left_comm]
theorem add_four' {A : Type} [AddCommMonoid A] (r c a b : A) : r + c + b + a = a + b + (r + c) := by
  simp only [add_assoc, add_comm, add_left_comm]

/-- One due as a tally. -/
abbrev due1 (x : Due) : CellTallies nD τ sig ℕ := tallyAt x.1 x.2.1 x.2.2

theorem tal_from4 (f : Fin 4 → Due) (l : List Due) : tal (from4 f l 0) = tal l + ∑ p, due1 (f p) := by
  show tal (f 0 :: f 1 :: f 2 :: f 3 :: l) = _
  simp only [tal_cons, Fin.sum_univ_four]
  exact add_five _ _ _ _ _

theorem tal_dues (c : Dev nD) : ∀ n, n ≤ 14 → tal (dues c (14 - n))
    = (∑ k ∈ Finset.Ico (14 - n) 14, ∑ p, due1 (dueRecv c k p)) + ∑ k ∈ Finset.Ico (14 - n) 13, ∑ p, due1 (dueCred c k p)
  | 0, _ => by
    rw [Finset.Ico_eq_empty (by omega), Finset.Ico_eq_empty (by omega), Finset.sum_empty, Finset.sum_empty, add_zero]
    rfl
  | n + 1, hn => by
    have ih := tal_dues c n (by omega)
    have e : 14 - n = 14 - (n + 1) + 1 := by omega
    rw [e] at ih
    generalize 14 - (n + 1) = h at ih e ⊢
    have hh : h < 14 := by omega
    have hI (m : ℕ) (hm : h < m) : Finset.Ico h m = insert h (Finset.Ico (h + 1) m) := by
      ext a; rw [Finset.mem_insert, Finset.mem_Ico, Finset.mem_Ico]; omega
    have hn (m : ℕ) : h ∉ Finset.Ico (h + 1) m := fun hm => Nat.lt_irrefl h (Finset.mem_Ico.mp hm).1
    rw [dues_eq c h hh, tal_from4, hI 14 hh, Finset.sum_insert (hn 14)]
    by_cases h13 : h < 13
    · rw [duesSent_eq c h h13, tal_from4, ih, hI 13 h13, Finset.sum_insert (hn 13)]
      exact add_four _ _ _ _
    · rw [Finset.Ico_eq_empty (by omega), Finset.Ico_eq_empty (by omega), Finset.sum_empty, Finset.sum_empty,
        show duesSent c h = [] from if_neg h13]
      simp only [zero_add, add_zero]
      exact zero_add _

/-- What all devices together owe to device `c`. -/
def toMe (c : Dev nD) : CellTallies nD τ sig ℕ :=
  tallyAt (barCell c) ixBar 2
    + ((∑ p : Fin 4, ∑ k ∈ Finset.range 14, tallyAt (recvCell c p (rs k)) (ixRecv k) N)
      + ∑ p : Fin 4, ∑ k ∈ Finset.range 13, tallyAt (credCell c p) (ixCred k) 1)

theorem sum_dues : (∑ d : Dev nD, tal (duesAll d)) = ∑ c : Dev nD, toMe c := by
  have hb1 : (∑ d : Dev nD, tallyAt (barCell (upst d 0)) ixBar 1 : CellTallies nD τ sig ℕ) = ∑ c : Dev nD, tallyAt (barCell c) ixBar 1 :=
    Equiv.sum_comp (along 0).symm fun c => (tallyAt (barCell c) ixBar 1 : CellTallies nD τ sig ℕ)
  have hb2 : (∑ d : Dev nD, tallyAt (barCell (dest d 0)) ixBar 1 : CellTallies nD τ sig ℕ) = ∑ c : Dev nD, tallyAt (barCell c) ixBar 1 :=
    Equiv.sum_comp (along 0) fun c => (tallyAt (barCell c) ixBar 1 : CellTallies nD τ sig ℕ)
  have hr : (∑ d : Dev nD, ∑ k ∈ Finset.range 14, ∑ p, due1 (dueRecv d k p))
      = ∑ c : Dev nD, ∑ p : Fin 4, ∑ k ∈ Finset.range 14, (tallyAt (recvCell c p (rs k)) (ixRecv k) N : CellTallies nD τ sig ℕ) := by
    rw [Finset.sum_congr rfl fun d _ => Finset.sum_comm, Finset.sum_comm, Finset.sum_comm (s := (Finset.univ : Finset (Dev nD)))]
    exact Finset.sum_congr rfl fun p _ =>
      Equiv.sum_comp (along p) fun c => ∑ k ∈ Finset.range 14, (tallyAt (recvCell c p (rs k)) (ixRecv k) N : CellTallies nD τ sig ℕ)
  have hc : (∑ d : Dev nD, ∑ k ∈ Finset.range 13, ∑ p, due1 (dueCred d k p))
      = ∑ c : Dev nD, ∑ p : Fin 4, ∑ k ∈ Finset.range 13, (tallyAt (credCell c p) (ixCred k) 1 : CellTallies nD τ sig ℕ) := by
    rw [Finset.sum_congr rfl fun d _ => Finset.sum_comm, Finset.sum_comm, Finset.sum_comm (s := (Finset.univ : Finset (Dev nD)))]
    exact Finset.sum_congr rfl fun p _ =>
      Equiv.sum_comp (along p).symm fun c => ∑ k ∈ Finset.range 13, (tallyAt (credCell c p) (ixCred k) 1 : CellTallies nD τ sig ℕ)
  have hd (d : Dev nD) : tal (duesAll d) = (tallyAt (barCell (upst d 0)) ixBar 1 + tallyAt (barCell (dest d 0)) ixBar 1)
      + ((∑ k ∈ Finset.range 14, ∑ p, due1 (dueRecv d k p)) + ∑ k ∈ Finset.range 13, ∑ p, due1 (dueCred d k p)) := by
    have := tal_dues d 14 le_rfl
    simp only [Nat.sub_self, ← Finset.range_eq_Ico] at this
    unfold duesAll
    rw [tal_cons, tal_cons, this]
    exact add_four' _ _ _ _
  have hm (c : Dev nD) : toMe c = (tallyAt (barCell c) ixBar 1 + tallyAt (barCell c) ixBar 1)
    + ((∑ p : Fin 4, ∑ k ∈ Finset.range 14, tallyAt (recvCell c p (rs k)) (ixRecv k) N)
      + ∑ p : Fin 4, ∑ k ∈ Finset.range 13, tallyAt (credCell c p) (ixCred k) 1) := by
    unfold toMe; rw [tallyAt_add]
  rw [Finset.sum_congr rfl fun d _ => hd d, Finset.sum_congr rfl fun d _ => hm d]
  simp only [Finset.sum_add_distrib]
  rw [hb1, hb2, hr, hc]

theorem toMe_own (c c' : Dev nD) (sm : SemLoc sig) (h : c' ≠ c) : toMe c' ((c : Thread nD τ), sm) = 0 := by
  have hne (sm' : SemLoc sig) : (((c : Thread nD τ), sm) : GSem nD τ sig) ≠ ((c' : Thread nD τ), sm') := fun e =>
    h (congrArg (fun g : GSem nD τ sig => g.1.1) e).symm
  unfold toMe
  simp only [Pi.add_apply, Finset.sum_apply, tallyAt_ne_cell (hne _), Finset.sum_const_zero, add_zero]

/-! ## The credits at launch -/

/-- The part of a tally on device `c`, semaphore by semaphore. -/
def credOn (c : Dev nD) (A : CellTallies nD τ sig ℕ) : sProp 𝕄 :=
  bigSep Finset.univ fun sm : SemLoc sig => cred (tallyOn ((c : Thread nD τ), sm) (A ((c : Thread nD τ), sm)))

theorem credOn_add (c : Dev nD) (A B : CellTallies nD τ sig ℕ) :
    credOn c (A + B) ⊢ (iprop(credOn c A ∗ credOn c B) : sProp 𝕄) := by
  unfold credOn
  rw [← bigSep_sep']
  refine bigSep_mono fun sm _ => ?_
  rw [show (tallyOn ((c : Thread nD τ), sm) ((A + B) ((c : Thread nD τ), sm)) : CellTallies nD τ sig ℕ)
    = tallyOn ((c : Thread nD τ), sm) (A ((c : Thread nD τ), sm)) + tallyOn ((c : Thread nD τ), sm) (B ((c : Thread nD τ), sm)) from
    Pi.single_add _ _ _]
  exact (cred_add _ _).1

theorem credOn_sum (c : Dev nD) {J : Type} [DecidableEq J] (S : Finset J) (A : J → CellTallies nD τ sig ℕ) :
    credOn c (∑ j ∈ S, A j) ⊢ (bigSep S fun j => credOn c (A j) : sProp 𝕄) := by
  induction S using Finset.induction_on with
  | empty => rw [bigSep_empty]; exact Laws.affine
  | insert j S hj ih =>
    rw [Finset.sum_insert hj, bigSep_add hj]
    exact (credOn_add c _ _).trans (sep_mono_r ih)

theorem credOn_at (c : Dev nD) (sm : SemLoc sig) (i n : ℕ) :
    credOn c (tallyAt ((c : Thread nD τ), sm) i n) ⊢ (cred (tallyAt ((c : Thread nD τ), sm) i n) : sProp 𝕄) := by
  unfold credOn
  refine (bigSep_one (Finset.mem_univ sm)).trans (Entails.of_eq ?_)
  congr 1
  unfold tallyAt
  rw [tallyOn_self]

theorem credOn_recv (c : Dev nD) :
    (bigSep Finset.univ fun p : Fin 4 => credOn c (∑ k ∈ Finset.range 14, tallyAt (recvCell c p (rs k)) (ixRecv k) N))
      ⊢ (bigSep Finset.univ fun p : Fin 4 => bigSep (Finset.range 14) fun k => cred (tallyAt (recvCell c p (rs k)) (ixRecv k) N) : sProp 𝕄) :=
  bigSep_mono fun _ _ => (credOn_sum c _ _).trans (bigSep_mono fun _ _ => credOn_at c _ _ _)

theorem credOn_cred (c : Dev nD) :
    (bigSep Finset.univ fun p : Fin 4 => credOn c (∑ k ∈ Finset.range 13, tallyAt (credCell c p) (ixCred k) 1))
      ⊢ (bigSep Finset.univ fun p : Fin 4 => bigSep (Finset.range 13) fun k => cred (tallyAt (credCell c p) (ixCred k) 1) : sProp 𝕄) :=
  bigSep_mono fun _ _ => (credOn_sum c _ _).trans (bigSep_mono fun _ _ => credOn_at c _ _ _)

/-- What device `c` starts with for pipe `p`. -/
def credIn (c : Dev nD) (p : Fin 4) : sProp 𝕄 :=
  iprop((bigSep (Finset.range 14) fun k => cred (tallyAt (recvCell c p (rs k)) (ixRecv k) N)) ∗ bigSep (Finset.range 13) fun k => takeTok c p k)

theorem launch_cred (c : Dev nD) :
    Pipeline.launchCred (fun d => tal (duesAll d)) c
      ⊢ (iprop(cred (tallyAt (barCell c) ixBar 2) ∗ all4 fun p => credIn c p) : sProp 𝕄) := by
  have e : (Pipeline.launchCred (fun d => tal (duesAll d)) c : sProp 𝕄) = credOn c (toMe c) := by
    unfold Pipeline.launchCred credOn
    refine bigSep_congr fun sm _ => ?_
    congr 2
    ext i
    rw [Pipeline.launchCredit_owing]
    have := congrArg (fun A : CellTallies nD τ sig ℕ => A ((c : Thread nD τ), sm) i) sum_dues
    simp only [Finset.sum_apply, Finsupp.finset_sum_apply] at this
    rw [this, Finset.sum_eq_single c (fun c' _ h => by rw [toMe_own c c' sm h]; rfl) (fun h => absurd (Finset.mem_univ _) h)]
  rw [e]
  unfold toMe
  iintro H
  ihave H := (credOn_add c _ _) $$ H
  icases H with ⟨Hb, H⟩
  isplitl [Hb]
  · iapply (credOn_at c _ _ _); iexact Hb
  ihave H := (credOn_add c _ _) $$ H
  icases H with ⟨Hr, Hc⟩
  ihave Hr := (credOn_sum c Finset.univ _) $$ Hr
  ihave Hc := (credOn_sum c Finset.univ _) $$ Hc
  rw [← bigSep_pipes]
  unfold credIn takeTok
  rw [bigSep_sep']
  isplitl [Hr]
  · iapply (credOn_recv c); iexact Hr
  · iapply (credOn_cred c); iexact Hc

end Cert.KernelIdeal.Pipes

end
-- ==== Proof.Rest.lean ====
/- Whole hops, and the whole body after its scale is read. -/
module

public import proofs.«01_k».proof.Proof.Hops

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

attribute [local irreducible] dues duesSent

variable (I : Inputs F) (K : Names)

/-- The accumulator at any contents and the result's columns after `j` flushes. -/
def ends (c : Dev nD) (j : ℕ) (p : Fin 4) : sProp 𝕄 := iprop(accAny c p ∗ outPos I c p j)

/-- All four pipes before hop `h`, after `j` flushes. -/
def at4 (c : Dev nD) (j h : ℕ) : sProp 𝕄 := all4 fun p => stA I (ends I c j p) c p h

/-- All four pipes with hop `h`'s copies started, after `j` flushes. -/
def sent4 (c : Dev nD) (j h : ℕ) : sProp 𝕄 := all4 fun p => stB I (ends I c j p) c p h

/-! ## Steps on all pipes -/

theorem wp_creditSends (c : Dev nD) (j k : ℕ) (hk : k < 13) (Q : PUnit → sProp 𝕄) :
    iprop(recs I K ∗ at4 I c j (k + 1) ∗ owesL c (dues c (k + 1)))
      ⊢ iprop(((sent4 I c j (k + 1) ∗ owesL c (duesSent c (k + 1))) -∗ Q ⟨⟩) -∗ wpc c (pipes (creditSend c (k + 1))) Q) := by
  rw [dues_eq c (k + 1) (by omega)]
  refine wp_pipes c (recs I K) _ _ (fun i => owesL c (from4 (dueRecv c (k + 1)) (duesSent c (k + 1)) i)) _ (fun p Q => ?_) Q
  beta_reduce
  rw [from4_cons]
  refine step_creditSend I K _ c k hk p _ ?_ Q
  rw [← from4_cons]
  exact (above_sending c (k + 1) (by omega) _).mono (by show 2 * k + 3 ≤ 2 * (k + 1) + 1; omega)

theorem wp_sends0' (c : Dev nD) (l : List Due) (Q : PUnit → sProp 𝕄) :
    iprop(recs I K ∗ (all4 fun p => iprop(stA I (ends I c 0 p) c p 0 ∗ ready (dest c p) p 0)) ∗ owesL c (from4 (dueRecv c 0) l 0))
      ⊢ iprop(((sent4 I c 0 0 ∗ owesL c l) -∗ Q ⟨⟩) -∗ wpc c (pipes (send c 0)) Q) := by
  refine wp_pipes c (recs I K) _ _ (fun i => owesL c (from4 (dueRecv c 0) l i)) _ (fun p Q => ?_) Q
  beta_reduce
  rw [from4_cons]
  exact step_send0 I K _ c p _ Q

theorem wp_sends0 (c : Dev nD) (Q : PUnit → sProp 𝕄) :
    iprop(recs I K ∗ (all4 fun p => iprop(stA I (ends I c 0 p) c p 0 ∗ ready (dest c p) p 0)) ∗ owesL c (dues c 0))
      ⊢ iprop(((sent4 I c 0 0 ∗ owesL c (duesSent c 0)) -∗ Q ⟨⟩) -∗ wpc c (pipes (send c 0)) Q) := by
  have h := wp_sends0' I K c (duesSent c 0) Q
  rwa [← dues_eq c 0 (by decide)] at h

theorem wp_waitSends (Y : Fin 4 → sProp 𝕄) (c : Dev nD) (h : ℕ) (hh : h < 14) (l : List Due) (hl : Above 0 l) (Q : PUnit → sProp 𝕄) :
    iprop(recs I K ∗ (all4 fun p => stB I (Y p) c p h) ∗ owesL c l)
      ⊢ iprop((((all4 fun p => stC I (Y p) c p h) ∗ owesL c l) -∗ Q ⟨⟩) -∗ wpc c (pipes (waitSend h)) Q) :=
  wp_pipes c (recs I K) _ _ (fun _ => owesL c l) _ (fun p Q => step_waitSend I K (Y p) c h hh p l hl Q) Q

theorem wp_giveCredits (Y : Fin 4 → sProp 𝕄) (c : Dev nD) (h : ℕ) (hh : h < 13) (Q : PUnit → sProp 𝕄) :
    iprop(recs I K ∗ (all4 fun p => stC I (Y p) c p h) ∗ owesL c (duesSent c h))
      ⊢ iprop((((all4 fun p => stD (Y p) c p h) ∗ owesL c (dues c (h + 1))) -∗ Q ⟨⟩) -∗ wpc c (pipes (giveCredit c)) Q) := by
  rw [duesSent_eq c h hh]
  refine wp_pipes c (recs I K) _ _ (fun i => owesL c (from4 (dueCred c h) (dues c (h + 1)) i)) _ (fun p Q => ?_) Q
  beta_reduce
  rw [from4_cons]
  exact step_giveCredit I K _ c h hh p _ Q

/-! ## Hops -/

theorem wp_hopTail (c : Dev nD) (k : Fin 7) (n n' : ℕ) (hn : k.val = n) (hn' : n' = n + 1) (Q : PUnit → sProp 𝕄) :
    iprop(recs I K ∗ sent4 I c 0 n ∗ xw I c ∗ owesL c (duesSent c n))
      ⊢ iprop(((at4 I c 0 n' ∗ xw I c ∗ owesL c (dues c n')) -∗ Q ⟨⟩) -∗ wpc c (hopTail c k) Q) := by
  subst hn
  subst hn'
  unfold hopTail
  simp only [wpc_bind]
  iintro ⟨#HR, H, Hx, HO⟩ Hk
  iapply (wp_pipes c (recs I K) _ _ (fun _ => xw I c) _ (fun p Q => step_compute I K c k p (outPos I c p 0) Q) _) $$ [H Hx]
  · isplitr; · iexact HR
    isplitl [H]; · unfold sent4 ends; iexact H
    iexact Hx
  iintro ⟨H, Hx⟩
  iapply (wp_waitSends I K _ c k.val (by omega) _ ((above_sent c k.val).mono (by omega)) _) $$ [H HO]
  · isplitr; · iexact HR
    isplitl [H]; · iexact H
    iexact HO
  iintro ⟨H, HO⟩
  iapply (wp_giveCredits I K _ c k.val (by omega) _) $$ [H HO]
  · isplitr; · iexact HR
    isplitl [H]; · iexact H
    iexact HO
  iintro ⟨H, HO⟩
  iapply (wp_pipes c (recs I K) _ _ (fun _ => owesL c (dues c (k.val + 1))) _
    (fun p Q => step_recvAdd I K c k p (outPos I c p 0) _ ((above_dues c (k.val + 1)).mono (by show 2 * k.val + 2 ≤ 2 * (k.val + 1) + 1; omega)) Q) _) $$ [H HO]
  · isplitr; · iexact HR
    isplitl [H]; · iexact H
    iexact HO
  iintro ⟨H, HO⟩
  iapply Hk
  isplitl [H]; · unfold at4 ends; iexact H
  isplitl [Hx]; · iexact Hx
  iexact HO

theorem wp_earlyHop (c : Dev nD) (k : Fin 7) (h h' : ℕ) (h0 : 0 < h) (hk : k.val = h) (hh : h' = h + 1) (Q : PUnit → sProp 𝕄) :
    iprop(recs I K ∗ at4 I c 0 h ∗ xw I c ∗ owesL c (dues c h))
      ⊢ iprop(((at4 I c 0 h' ∗ xw I c ∗ owesL c (dues c h')) -∗ Q ⟨⟩) -∗ wpc c (earlyHop c k) Q) := by
  obtain ⟨n, rfl⟩ : ∃ n, h = n + 1 := ⟨h - 1, by omega⟩
  subst hh
  unfold earlyHop
  rw [hk]
  simp only [wpc_bind]
  iintro ⟨#HR, H, Hx, HO⟩ Hk
  iapply (wp_creditSends I K c 0 n (by omega) _) $$ [H HO]
  · isplitr; · iexact HR
    isplitl [H]; · iexact H
    iexact HO
  iintro ⟨H, HO⟩
  iapply (wp_hopTail I K c k (n + 1) (n + 1 + 1) hk rfl _) $$ [H Hx HO]
  · isplitr; · iexact HR
    isplitl [H]; · iexact H
    isplitl [Hx]; · iexact Hx
    iexact HO
  iintro H
  iapply Hk
  iexact H

theorem wp_lateHop (c : Dev nD) (j h j' h' : ℕ) (hj : j < 6) (hh : h = 7 + j) (hj' : j' = j + 1) (hh' : h' = h + 1) (off) (hoff) (ho : ∀ p, off p = tileOff (blk c j p) p) (Q : PUnit → sProp 𝕄) :
    iprop(recs I K ∗ at4 I c j h ∗ owesL c (dues c h))
      ⊢ iprop(((at4 I c j' h' ∗ owesL c (dues c h')) -∗ Q ⟨⟩) -∗ wpc c (lateHop c (I.sc c) h off hoff) Q) := by
  obtain ⟨n, hn⟩ : ∃ n, h = n + 1 := ⟨6 + j, by omega⟩
  subst hj'
  subst hh'
  unfold lateHop
  simp only [wpc_bind]
  iintro ⟨#HR, H, HO⟩ Hk
  subst hn
  iapply (wp_creditSends I K c j n (by omega) _) $$ [H HO]
  · isplitr; · iexact HR
    isplitl [H]; · iexact H
    iexact HO
  iintro ⟨H, HO⟩
  rw [hh]
  iapply (wp_pipes c (recs I K) _ _ (fun _ => owesL c (duesSent c (7 + j))) _
    (fun p Q => step_flush I K c j (by omega) p off hoff (ho p) _ ((above_sent c (7 + j)).mono (by omega)) Q) _) $$ [H HO]
  · isplitr; · iexact HR
    isplitl [H]; · unfold sent4 ends; iexact H
    iexact HO
  iintro ⟨H, HO⟩
  iapply (wp_waitSends I K _ c (7 + j) (by omega) _ ((above_sent c (7 + j)).mono (by omega)) _) $$ [H HO]
  · isplitr; · iexact HR
    isplitl [H]; · iexact H
    iexact HO
  iintro ⟨H, HO⟩
  iapply (wp_giveCredits I K _ c (7 + j) (by omega) _) $$ [H HO]
  · isplitr; · iexact HR
    isplitl [H]; · iexact H
    iexact HO
  iintro ⟨H, HO⟩
  iapply (wp_pipes c (recs I K) _ _ (fun _ => owesL c (dues c (7 + j + 1))) _
    (fun p Q => step_waitRecv I K _ c (7 + j) (by omega) (by omega) p _
      ((above_dues c (7 + j + 1)).mono (by show 2 * (7 + j) + 2 ≤ 2 * (7 + j + 1) + 1; omega)) Q) _) $$ [H HO]
  · isplitr; · iexact HR
    isplitl [H]; · iexact H
    iexact HO
  iintro ⟨H, HO⟩
  iapply Hk
  isplitl [H]; · unfold at4 ends; iexact H
  iexact HO

/-! ## The last hop -/

/-- A pipe at the end: both slots, the accumulator, the columns of the result, and the positions. -/
def stZ (Y : sProp 𝕄) (c : Dev nD) (p : Fin 4) : sProp 𝕄 :=
  iprop((slotAt c p (rs 13) fullShare (I.val (7 + 7) c p) ∗ slotAny c p (ss 13)) ∗ Y ∗ sendPos c p 14 ∗ recvPos c p 14 ∗ credPos c p 14)

theorem step_lastRecv (Y : sProp 𝕄) (c : Dev nD) (p : Fin 4) (l : List Due) (hl : Above (ixRecv 13) l) (Q : PUnit → sProp 𝕄) :
    iprop(recs I K ∗ stC I Y c p 13 ∗ owesL c l)
      ⊢ iprop(((stZ I Y c p ∗ owesL c l) -∗ Q ⟨⟩) -∗ wpc c (waitRecv 13 p) Q) := by
  unfold stC stZ snd
  iintro ⟨#HR, ⟨Hs, Hcr, HY, Hsp, Hrp, ⟨-, -, Hcp⟩, -⟩, HO⟩ Hk
  iapply (wp_waitRecv I K c 13 (by decide) p l hl _) $$ [Hcr Hrp HO]
  · isplitr; · iexact HR
    isplitl [Hcr]; · iexact Hcr
    isplitl [Hrp]; · iexact Hrp
    iexact HO
  iintro ⟨Hn, Hrp, HO⟩
  iapply Hk
  isplitr [HO]
  · isplitl [Hs Hn]
    · isplitl [Hn]; · rw [show I.val (7 + 7) c p = I.val 13 (upst c p) p from val_pass I c p 13 (by decide)]; iexact Hn
      iapply (slotAt_any c p (ss 13) _); iexact Hs
    isplitl [HY]; · iexact HY
    isplitl [Hsp]; · iexact Hsp
    isplitl [Hrp]; · iexact Hrp
    iexact Hcp
  iexact HO

theorem step_lastFlush (c : Dev nD) (p : Fin 4) (off) (hoff) (ho : off p = tileOff (blk c 7 p) p)
    (l : List Due) (hl : Above 0 l) (Q : PUnit → sProp 𝕄) :
    iprop(recs I K ∗ stZ I (ends I c 7 p) c p ∗ owesL c l)
      ⊢ iprop(((stZ I (ends I c 8 p) c p ∗ owesL c l) -∗ Q ⟨⟩) -∗ wpc c (flush (I.sc c) (rs 13) off hoff p) Q) := by
  unfold stZ ends
  iintro ⟨#HR, ⟨⟨Hs, Hs'⟩, ⟨Ha, Hp⟩, Hrest⟩, HO⟩ Hk
  iapply (wp_flush I K c 7 (by decide) p (rs 13) _ _ (tile_val I c p 7) off hoff ho l hl _) $$ [Hs Ha Hp HO]
  · isplitr; · iexact HR
    isplitl [Hs]; · iexact Hs
    isplitl [Ha]; · iexact Ha
    isplitl [Hp]; · iexact Hp
    iexact HO
  iintro ⟨Hs, Ha, Hp, HO⟩
  iapply Hk
  isplitr [HO]
  · isplitl [Hs Hs']; · isplitl [Hs] <;> iassumption
    isplitl [Ha Hp]
    · isplitl [Ha] <;> iassumption
    iexact Hrest
  iexact HO

/-! ## The beginning -/

/-- A pipe at launch. -/
def stInit (c : Dev nD) (p : Fin 4) : sProp 𝕄 :=
  iprop((slotAny c p 0 ∗ slotAny c p 1) ∗ ends I c 0 p ∗ sendPos c p 0 ∗ recvPos c p 0 ∗ snd c p 0
    ∗ (Release.readerAt EK (c, p, 0) 0 ∗ Release.readerAt EK (c, p, 1) 0 ∗ bigSep (Finset.Ico 0 13) fun k => giveTok c p k))

/-- A pipe with its landing slot given away. -/
def stOpen (c : Dev nD) (p : Fin 4) : sProp 𝕄 :=
  iprop(slotAny c p 0 ∗ ends I c 0 p ∗ sendPos c p 0 ∗ recvPos c p 0 ∗ snd c p 0 ∗ bk c p 0)

theorem open_slot (c : Dev nD) (p : Fin 4) :
    iprop(recs I K ∗ stInit I c p) ⊢ iprop(|={Set.univ}=> (ready c p 0 ∗ stOpen I c p) : sProp 𝕄) := by
  unfold stInit stOpen bk readers freed
  iintro ⟨#HR, ⟨⟨H0, H1⟩, HY, Hsp, Hrp, Hsn, ⟨Hr0, Hr1, Hg⟩⟩⟩
  ihave #HI := (recs_slot I K c p 1) $$ HR
  ihave #Hv := (recs_reached I K c (ixR p 1) _ (csem_R p 1)) $$ HR
  imod (Release.slot_release EK (Set.mem_univ _)
    (Release.slot_slot_false (ℓ := (slotV p 1).loc (c : Thread nD τ)) (I := (slotV p 1).set) (slot_nonempty p 1)) 0) $$ [H1 Hr1] with ⟨Hr1, #Hrel⟩
  · isplitr; · iexact HI
    isplitl [Hr1]; · iexact Hr1
    unfold slotAny; iexact H1
  imodintro
  isplitr
  · unfold ready
    isplitr; · iexact Hrel
    iexact Hv
  isplitl [H0]; · iexact H0
  isplitl [HY]; · iexact HY
  isplitl [Hsp]; · iexact Hsp
  isplitl [Hrp]; · iexact Hrp
  isplitl [Hsn]; · iexact Hsn
  isplitl [Hr0 Hr1]
  · isplitl [Hr0]; · iexact Hr0
    iexact Hr1
  isplitl [Hg]; · iexact Hg
  rw [Finset.range_zero, bigSep_empty]
  iempintro

theorem step_seed (c : Dev nD) (p : Fin 4) (Q : PUnit → sProp 𝕄) :
    iprop(recs I K ∗ stOpen I c p ∗ xw I c)
      ⊢ iprop(((stA I (ends I c 0 p) c p 0 ∗ xw I c) -∗ Q ⟨⟩) -∗ wpc c (seed c p) Q) := by
  unfold stOpen stA
  iintro ⟨-, ⟨Hs, Hrest⟩, Hx⟩ Hk
  iapply (wp_seed I c p _) $$ [Hs Hx]
  · isplitl [Hs] <;> iassumption
  iintro ⟨Hs, Hx⟩
  iapply Hk
  isplitr [Hx]
  · isplitl [Hs]; · iexact Hs
    iexact Hrest
  iexact Hx

/-- A device's part of the barrier. -/
def barTok (c : Dev nD) : sProp 𝕄 :=
  iprop(dutyTok ER (barCell (upst c 0)) 0 0 ∗ dutyTok ER (barCell (dest c 0)) 0 1 ∗ atPos ER (barCell c) 0 ∅ 0 ∗ cred (tallyAt (barCell c) ixBar 2))

theorem open_slots (c : Dev nD) :
    iprop(recs I K ∗ all4 (stInit I c)) ⊢ iprop(|={Set.univ}=> ((all4 fun p => ready c p 0) ∗ all4 (stOpen I c)) : sProp 𝕄) := by
  unfold all4
  iintro ⟨#HR, H0, H1, H2, H3⟩
  imod (open_slot I K c 0) $$ [H0] with ⟨R0, H0⟩
  · isplitr; · iexact HR
    iexact H0
  imod (open_slot I K c 1) $$ [H1] with ⟨R1, H1⟩
  · isplitr; · iexact HR
    iexact H1
  imod (open_slot I K c 2) $$ [H2] with ⟨R2, H2⟩
  · isplitr; · iexact HR
    iexact H2
  imod (open_slot I K c 3) $$ [H3] with ⟨R3, H3⟩
  · isplitr; · iexact HR
    iexact H3
  imodintro
  isplitl [R0 R1 R2 R3]
  · isplitl [R0]; · iexact R0
    isplitl [R1]; · iexact R1
    isplitl [R2]; · iexact R2
    iexact R3
  isplitl [H0]; · iexact H0
  isplitl [H1]; · iexact H1
  isplitl [H2]; · iexact H2
  iexact H3

theorem all4_sep {M : Type} [URA M] (A B : Fin 4 → sProp M) : iprop(all4 A ∗ all4 B) ⊢ (all4 fun p => iprop(A p ∗ B p) : sProp M) := by
  unfold all4
  iintro ⟨⟨A0, A1, A2, A3⟩, B0, B1, B2, B3⟩
  isplitl [A0 B0]; · isplitl [A0] <;> iassumption
  isplitl [A1 B1]; · isplitl [A1] <;> iassumption
  isplitl [A2 B2]; · isplitl [A2] <;> iassumption
  isplitl [A3] <;> iassumption

/-- The body from its scale on: from the state at launch to the state in which all is flushed and nothing is owed. -/
theorem wp_rest (c : Dev nD) (Q : PUnit → sProp 𝕄) :
    iprop(recs I K ∗ all4 (stInit I c) ∗ barTok c ∗ xw I c ∗ owesL c (duesAll c))
      ⊢ iprop((((all4 fun p => stZ I (ends I c 8 p) c p) ∗ atPos ER (barCell c) 1 ∅ 0 ∗ xw I c ∗ owesL c (duesSent c 13)) -∗ Q ⟨⟩)
          -∗ wpc c (rest c (I.sc c)) Q) := by
  unfold rest barTok duesAll
  simp only [wpc_bind]
  iintro ⟨#HR, H, ⟨Hb0, Hb1, Hba, Hbc⟩, Hx, HO⟩ Hk
  iapply (fupd_wp _ _ _)
  imod (open_slots I K c) $$ [H] with ⟨Hrd, H⟩
  · isplitr; · iexact HR
    iexact H
  imodintro
  unfold all4
  icases Hrd with ⟨#R0, #R1, #R2, #R3⟩
  iapply (wp_barUp I K c _ _) $$ [Hb0 HO]
  · isplitr; · iexact HR
    isplitr; · iexact R0
    isplitr; · iexact R1
    isplitl [Hb0]; · iexact Hb0
    iexact HO
  iintro HO
  iapply (wp_barDown I K c _ _) $$ [Hb1 HO]
  · isplitr; · iexact HR
    isplitr; · iexact R2
    isplitr; · iexact R3
    isplitl [Hb1]; · iexact Hb1
    iexact HO
  iintro HO
  iapply (wp_barWait I K c _ (above_dues c 0) _) $$ [Hba Hbc HO]
  · isplitr; · iexact HR
    isplitl [Hba]; · iexact Hba
    isplitl [Hbc]; · iexact Hbc
    iexact HO
  iintro ⟨Hba, Hrd, HO⟩
  iapply (wp_pipes c (recs I K) (stOpen I c) (fun p => stA I (ends I c 0 p) c p 0) (fun _ => xw I c) (seed c) (fun p Q => step_seed I K c p Q) _) $$ [H Hx]
  · isplitr; · iexact HR
    isplitl [H]; · unfold all4; iexact H
    iexact Hx
  iintro ⟨H, Hx⟩
  iapply (wp_sends0 I K c _) $$ [H Hrd HO]
  · isplitr; · iexact HR
    isplitr [HO]
    · iapply (all4_sep (fun p => stA I (ends I c 0 p) c p 0) (fun p => ready (dest c p) p 0))
      isplitl [H]; · iexact H
      unfold all4; iexact Hrd
    iexact HO
  iintro ⟨H, HO⟩
  iapply (wp_hopTail I K c 0 0 1 rfl rfl _) $$ [H Hx HO]
  · isplitr; · iexact HR
    isplitl [H]; · iexact H
    isplitl [Hx]; · iexact Hx
    iexact HO
  iintro ⟨H, Hx, HO⟩
  iapply (wp_earlyHop I K c 1 1 2 (by decide) rfl rfl _) $$ [H Hx HO]
  · isplitr; · iexact HR
    isplitl [H]; · iexact H
    isplitl [Hx]; · iexact Hx
    iexact HO
  iintro ⟨H, Hx, HO⟩
  iapply (wp_earlyHop I K c 2 2 3 (by decide) rfl rfl _) $$ [H Hx HO]
  · isplitr; · iexact HR
    isplitl [H]; · iexact H
    isplitl [Hx]; · iexact Hx
    iexact HO
  iintro ⟨H, Hx, HO⟩
  iapply (wp_earlyHop I K c 3 3 4 (by decide) rfl rfl _) $$ [H Hx HO]
  · isplitr; · iexact HR
    isplitl [H]; · iexact H
    isplitl [Hx]; · iexact Hx
    iexact HO
  iintro ⟨H, Hx, HO⟩
  iapply (wp_earlyHop I K c 4 4 5 (by decide) rfl rfl _) $$ [H Hx HO]
  · isplitr; · iexact HR
    isplitl [H]; · iexact H
    isplitl [Hx]; · iexact Hx
    iexact HO
  iintro ⟨H, Hx, HO⟩
  iapply (wp_earlyHop I K c 5 5 6 (by decide) rfl rfl _) $$ [H Hx HO]
  · isplitr; · iexact HR
    isplitl [H]; · iexact H
    isplitl [Hx]; · iexact Hx
    iexact HO
  iintro ⟨H, Hx, HO⟩
  iapply (wp_earlyHop I K c 6 6 7 (by decide) rfl rfl _) $$ [H Hx HO]
  · isplitr; · iexact HR
    isplitl [H]; · iexact H
    isplitl [Hx]; · iexact Hx
    iexact HO
  iintro ⟨H, Hx, HO⟩
  iapply (wp_lateHop I K c 0 7 1 8 (by decide) rfl rfl rfl _ _ (fun p => outOff0_eq c p) _) $$ [H HO]
  · isplitr; · iexact HR
    isplitl [H]; · iexact H
    iexact HO
  iintro ⟨H, HO⟩
  iapply (wp_lateHop I K c 1 8 2 9 (by decide) rfl rfl rfl _ _ (fun p => outOff_eq c 0 p) _) $$ [H HO]
  · isplitr; · iexact HR
    isplitl [H]; · iexact H
    iexact HO
  iintro ⟨H, HO⟩
  iapply (wp_lateHop I K c 2 9 3 10 (by decide) rfl rfl rfl _ _ (fun p => outOff_eq c 1 p) _) $$ [H HO]
  · isplitr; · iexact HR
    isplitl [H]; · iexact H
    iexact HO
  iintro ⟨H, HO⟩
  iapply (wp_lateHop I K c 3 10 4 11 (by decide) rfl rfl rfl _ _ (fun p => outOff_eq c 2 p) _) $$ [H HO]
  · isplitr; · iexact HR
    isplitl [H]; · iexact H
    iexact HO
  iintro ⟨H, HO⟩
  iapply (wp_lateHop I K c 4 11 5 12 (by decide) rfl rfl rfl _ _ (fun p => outOff_eq c 3 p) _) $$ [H HO]
  · isplitr; · iexact HR
    isplitl [H]; · iexact H
    iexact HO
  iintro ⟨H, HO⟩
  iapply (wp_lateHop I K c 5 12 6 13 (by decide) rfl rfl rfl _ _ (fun p => outOff_eq c 4 p) _) $$ [H HO]
  · isplitr; · iexact HR
    isplitl [H]; · iexact H
    iexact HO
  iintro ⟨H, HO⟩
  iapply (wp_creditSends I K c 6 12 (by decide) _) $$ [H HO]
  · isplitr; · iexact HR
    isplitl [H]; · iexact H
    iexact HO
  iintro ⟨H, HO⟩
  iapply (wp_pipes c (recs I K) _ _ (fun _ => owesL c (duesSent c 13)) _
    (fun p Q => step_flush I K c 6 (by decide) p (outOff c 5) (outOff_inb c 5) (outOff_eq c 5 p) _ ((above_sent c 13).mono (by decide)) Q) _) $$ [H HO]
  · isplitr; · iexact HR
    isplitl [H]; · unfold sent4 ends; iexact H
    iexact HO
  iintro ⟨H, HO⟩
  iapply (wp_waitSends I K (ends I c 7) c 13 (by decide) _ ((above_sent c 13).mono (by decide)) _) $$ [H HO]
  · isplitr; · iexact HR
    isplitl [H]; · unfold ends; iexact H
    iexact HO
  iintro ⟨H, HO⟩
  iapply (wp_pipes c (recs I K) _ _ (fun _ => owesL c (duesSent c 13)) _
    (fun p Q => step_lastRecv I K (ends I c 7 p) c p _ ((above_sent c 13).mono (by decide)) Q) _) $$ [H HO]
  · isplitr; · iexact HR
    isplitl [H]; · iexact H
    iexact HO
  iintro ⟨H, HO⟩
  iapply (wp_pipes c (recs I K) _ _ (fun _ => owesL c (duesSent c 13)) _
    (fun p Q => step_lastFlush I K c p (outOff c 6) (outOff_inb c 6) (outOff_eq c 6 p) _ ((above_sent c 13).mono (by decide)) Q) _) $$ [H HO]
  · isplitr; · iexact HR
    isplitl [H]; · iexact H
    iexact HO
  iintro ⟨H, HO⟩
  iapply Hk
  isplitl [H]; · unfold all4; iexact H
  isplitl [Hba]; · iexact Hba
  isplitl [Hx]; · iexact Hx
  iexact HO

end Cert.KernelIdeal.Pipes

end
-- ==== Proof.Close.lean ====
/- What is left when the body ends: every semaphore of a pipe reads zero, and its slots, its accumulator and its
columns of the result are the device's again. -/
module

public import proofs.«01_k».proof.Proof.Rest

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Names)

/-- A semaphore whose rounds are over reads zero. -/
theorem close_cell (c : Dev nD) (i : Fin 25) (sm : SemLoc sig) (h : csem i = sm) (n : ℕ)
    (hn : (match roleOf sm with | .bar => 1 | .cred _ => 1 | .send _ _ => 7 | .recv _ _ => 7 | .out _ => 8 | .other => 0) ≤ n) :
    iprop(recs I K ∗ atPos ER ((c : Thread nD τ), sm) n ∅ 0) ⊢ iprop(|={Set.univ}=> semVal ((c : Thread nD τ), sm) 0 : sProp 𝕄) :=
  (sep_mono_l (recs_cell I K c i sm h)).trans
    (Rounds.cell_close ER (sched I) (Set.mem_univ _) (fun h => h) fun r hr => duties_later I c sm n r hn hr)

/-- The credits of a pipe, all heard, are a round over. -/
theorem close_cred (c : Dev nD) (p : Fin 4) :
    iprop(recs I K ∗ credPos c p 14) ⊢ iprop(|={Set.univ}=> semVal (credCell c p) 0 : sProp 𝕄) := by
  unfold credPos
  iintro ⟨#HR, ⟨%T, %hT, Hat, -⟩⟩
  have e : T = Finset.range 13 := Finset.eq_of_subset_of_card_le hT.1 (by rw [Finset.card_range]; exact hT.2)
  subst e
  imod (Rounds.fupd_skip ER (sched I) (κ := K.cell (c, ixC p)) (R := 0) (m := 14 - 1) (T := Finset.range 13)
    (g := credCell c p) (Finset.subset_of_eq (duties_cred I c p)) (by rw [expect_cred]) (Set.mem_univ _)) $$ [Hat] with ⟨Hat, -⟩
  · isplitr
    · iapply (recs_cell I K c (ixC p) _ (csem_C p)); iexact HR
    iexact Hat
  iapply (close_cell I K c (ixC p) _ (csem_C p) 1 (by rw [role_cred]))
  isplitr; · iexact HR
  iexact Hat

/-- The semaphores of a pipe, all zero. -/
def semsOf (c : Dev nD) (p : Fin 4) : sProp 𝕄 :=
  iprop(semVal (credCell c p) 0 ∗ semVal (sendCell c p 0) 0 ∗ semVal (sendCell c p 1) 0
    ∗ semVal (recvCell c p 0) 0 ∗ semVal (recvCell c p 1) 0 ∗ semVal (outCell c p) 0)

/-- What a pipe holds when the body ends. -/
def doneSt (c : Dev nD) (p : Fin 4) : sProp 𝕄 :=
  iprop((slotAny c p 0 ∗ slotAny c p 1) ∗ accAny c p ∗ (bigSep (Finset.range 8) fun k => tileAt c (blk c k p) p (I.out c)) ∗ semsOf c p)

theorem close_pipe (c : Dev nD) (p : Fin 4) :
    iprop(recs I K ∗ stZ I (ends I c 8 p) c p) ⊢ iprop(|={Set.univ}=> doneSt I c p : sProp 𝕄) := by
  unfold stZ ends sendPos recvPos outPos doneSt semsOf
  iintro ⟨#HR, ⟨H0, H1⟩, ⟨Ha, Hpo, -, -, Ht, -⟩, ⟨⟨Hs0, -⟩, ⟨Hs1, -⟩⟩, ⟨⟨Hr1, -⟩, ⟨Hr0, -⟩⟩, Hc⟩
  imod (close_cred I K c p) $$ [Hc] with Hc
  · isplitr; · iexact HR
    iexact Hc
  imod (close_cell I K c (ixO p) _ (csem_O p) 8 (by rw [role_out])) $$ [Hpo] with Hpo
  · isplitr; · iexact HR
    iexact Hpo
  imod (close_cell I K c (ixS p 0) _ (csem_S p 0) 7 (by rw [role_send])) $$ [Hs0] with Hs0
  · isplitr; · iexact HR
    iexact Hs0
  imod (close_cell I K c (ixS p 1) _ (csem_S p 1) 7 (by rw [role_send])) $$ [Hs1] with Hs1
  · isplitr; · iexact HR
    iexact Hs1
  imod (close_cell I K c (ixR p 0) _ (csem_R p 0) 7 (by rw [role_recv])) $$ [Hr0] with Hr0
  · isplitr; · iexact HR
    iexact Hr0
  imod (close_cell I K c (ixR p 1) _ (csem_R p 1) 7 (by rw [role_recv])) $$ [Hr1] with Hr1
  · isplitr; · iexact HR
    iexact Hr1
  imodintro
  isplitl [H0 H1]
  · isplitl [H0]
    · iapply (slotAt_any c p 0 (I.val (7 + 7) c p)); iexact H0
    iexact H1
  isplitl [Ha]; · iexact Ha
  isplitl [Ht]; · iexact Ht
  isplitl [Hc]; · iexact Hc
  isplitl [Hs0]; · iexact Hs0
  isplitl [Hs1]; · iexact Hs1
  isplitl [Hr0]; · iexact Hr0
  isplitl [Hr1]; · iexact Hr1
  iexact Hpo

/-- The barrier, once waited for, reads zero. -/
theorem close_bar (c : Dev nD) :
    iprop(recs I K ∗ atPos ER (barCell c) 1 ∅ 0) ⊢ iprop(|={Set.univ}=> semVal (barCell c) 0 : sProp 𝕄) :=
  close_cell I K c ixB _ csem_B 1 (by rw [role_bar])

end Cert.KernelIdeal.Pipes

end
-- ==== Proof.Start.lean ====
/- The whole body: from what the launch gives a device to what the device gives back. -/
module

public import proofs.«01_k».proof.Proof.Alloc
public import proofs.«01_k».proof.Proof.Credits
public import proofs.«01_k».proof.Proof.Close

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Names)

/-! ## Every pipe's state -/

/-- The positions of a pipe's six semaphores at launch. -/
def sixPos (c : Dev nD) (p : Fin 4) : sProp 𝕄 :=
  iprop(atPos ER (credCell c p) 0 ∅ 0 ∗ atPos ER (sendCell c p 0) 0 ∅ 0 ∗ atPos ER (sendCell c p 1) 0 ∅ 0
    ∗ atPos ER (recvCell c p 0) 0 ∅ 0 ∗ atPos ER (recvCell c p 1) 0 ∅ 0 ∗ atPos ER (outCell c p) 0 ∅ 0)

theorem hop_toks (c : Dev nD) (p : Fin 4) :
    iprop((bigSep (Finset.range 14) fun k => dutyTok ER (sendCell c p (ss k)) (k / 2) 0)
        ∗ (bigSep (Finset.range 14) fun k => dutyTok ER (recvCell (dest c p) p (rs k)) (k / 2) 0)
        ∗ (bigSep (Finset.range 14) fun k => Release.writeTok EK (dest c p, p, rs k) (k / 2 + 1))
        ∗ bigSep (Finset.range 14) fun k => cred (tallyAt (recvCell c p (rs k)) (ixRecv k) N))
      ⊢ (bigSep (Finset.Ico 0 14) fun k => hopTok c p k : sProp 𝕄) := by
  rw [← Finset.range_eq_Ico]
  unfold hopTok
  simp only [bigSep_sep']
  exact Entails.refl _

theorem tileAt_any (c : Dev nD) (b : Fin 8) (p : Fin 4) (g : Vec F S4096x8192 .f32) : tileAt c b p g ⊢ (tileAny c b p : sProp 𝕄) := by
  unfold tileAny
  iintro H; iexists g; iexact H

theorem tiles_any (c : Dev nD) (p : Fin 4) (g : Vec F S4096x8192 .f32) :
    (bigSep (Finset.range 8) fun k => tileAt c (blk c k p) p g) ⊢ (bigSep (Finset.range 8) fun k => tileAny c (blk c k p) p : sProp 𝕄) :=
  bigSep_mono fun k _ => tileAt_any c (blk c k p) p g

theorem pipe_start (c : Dev nD) (p : Fin 4) (g : Vec F S4096x8192 .f32) :
    iprop(recs I K ∗ commAny c p ∗ accWhole c p ∗ (bigSep (Finset.range 8) fun k => tileAt c (blk c k p) p g)
        ∗ sixPos c p ∗ dealt c p ∗ dealtSlot c p ∗ credIn c p)
      ⊢ (stInit I c p : sProp 𝕄) := by
  unfold sixPos dealt dealtSlot credIn stInit ends outPos sendPos recvPos snd credPos
  iintro ⟨#HR, Hc, Ha, Ht, ⟨Pc, Ps0, Ps1, Pr0, Pr1, Po⟩, ⟨Ts, Tr, To, Tg⟩, ⟨Hrd, Tw⟩, ⟨Cr, Cc⟩⟩
  isplitl [Hc]
  · iapply (comm_split c p); iexact Hc
  isplitl [Ha Po To Ht]
  · isplitl [Ha]
    · iapply (acc_split c p); iexact Ha
    isplitl [Po]; · iexact Po
    isplitr
    · iapply (recs_reached I K c (ixO p) _ (csem_O p)); iexact HR
    isplitl [To]
    · rw [← Finset.range_eq_Ico]; iexact To
    isplitr
    · rw [Finset.range_zero, bigSep_empty]; iempintro
    rw [← Finset.range_eq_Ico]
    iapply (tiles_any c p g); iexact Ht
  isplitl [Ps0 Ps1]
  · isplitl [Ps0]
    · isplitl [Ps0]; · iexact Ps0
      iapply (recs_reached I K c (ixS p 0) _ (csem_S p 0)); iexact HR
    · isplitl [Ps1]; · iexact Ps1
      iapply (recs_reached I K c (ixS p 1) _ (csem_S p 1)); iexact HR
  isplitl [Pr0 Pr1]
  · isplitl [Pr1]
    · isplitl [Pr1]; · iexact Pr1
      iapply (recs_reached I K c (ixR p 1) _ (csem_R p 1)); iexact HR
    · isplitl [Pr0]; · iexact Pr0
      iapply (recs_reached I K c (ixR p 0) _ (csem_R p 0)); iexact HR
  isplitl [Ts Tr Tw Cr Cc Pc]
  · isplitl [Ts Tr Tw Cr]
    · iapply (hop_toks c p)
      isplitl [Ts]; · iexact Ts
      isplitl [Tr]; · iexact Tr
      isplitl [Tw]; · iexact Tw
      iexact Cr
    isplitl [Cc]
    · rw [show 0 - 1 = 0 from rfl, ← Finset.range_eq_Ico]; iexact Cc
    iexists (∅ : Finset ℕ)
    isplitr
    · ipureintro; exact ⟨Finset.empty_subset _, Nat.zero_le _⟩
    isplitl [Pc]; · iexact Pc
    rw [bigSep_empty]; iempintro
  icases Hrd with ⟨R0, R1⟩
  isplitl [R0]; · iexact R0
  isplitl [R1]; · iexact R1
  rw [← Finset.range_eq_Ico]; iexact Tg

end Cert.KernelIdeal.Pipes

end
-- ==== Proof.Whole.lean ====
/- The whole body: from what the launch gives a device to what the device gives back. -/
module

public import proofs.«01_k».proof.Proof.Start

@[expose] public section

noncomputable section

namespace Cert.KernelIdeal.Pipes

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Names)

attribute [local irreducible] dues duesSent duesAll

/-- The VMEM buffers of a device, with any contents. -/
def bufs (c : Dev nD) : sProp 𝕄 := iprop((all4 fun p => commAny c p) ∗ all4 fun p => accWhole c p)

/-- What the launch gives device `c` beside its buffers. -/
def given (c : Dev nD) : sProp 𝕄 :=
  iprop(G' I c ∗ levAts L lv ∗ (cred (tallyAt (barCell c) ixBar 2) ∗ all4 fun p => credIn c p) ∗ ∃ g, resAt c g)

/-- What device `c` gives back beside its buffers. -/
def handed (c : Dev nD) : sProp 𝕄 :=
  iprop(resAt c (I.out c) ∗ semVal (barCell c) 0
    ∗ Pipeline.ownSems0 (Ix := ℕ) (Name := ℕ) (U := UU) (Lvl := ℕ) (Val := Elt F) (τ := τ) osem c)

theorem deal_pos (c : Dev nD) :
    (bigSep Finset.univ fun k : Fin 25 => atPos ER (kcell (c, k)) 0 ∅ 0 : sProp 𝕄)
      ⊢ iprop(atPos ER (barCell c) 0 ∅ 0 ∗ all4 fun p => sixPos c p) := by
  refine (Entails.of_eq (bigSep_cells fun sm => (atPos ER ((c : Thread nD τ), sm) 0 ∅ 0 : sProp 𝕄))).trans ?_
  rw [bigSep_pipes]
  exact Entails.refl _

theorem start_all (c : Dev nD) :
    iprop(given I c ∗ bufs c) ⊢ (iprop(∃ K : Names, recs I K ∗ all4 (stInit I c) ∗ barTok c) : sProp 𝕄) := by
  unfold given G' bufs mine recs barTok
  iintro ⟨⟨⟨%K, #HC, #HS, #Hr, ⟨Hat, Hbar, Hd, Hsl⟩⟩, #HL, ⟨Cb, Ci⟩, ⟨%g, Hres⟩⟩, ⟨Hcm, Hac⟩⟩
  ihave Hat := (deal_pos c) $$ Hat
  icases Hat with ⟨Pb, P6⟩
  ihave Hd := (Entails.of_eq (bigSep_pipes fun p => dealt c p)) $$ Hd
  ihave Hsl := (Entails.of_eq (bigSep_pipes fun p => dealtSlot c p)) $$ Hsl
  ihave Hres := (Entails.of_eq (res_tiles c g)) $$ Hres
  ihave #HR : recs I K $$ []
  · unfold recs
    isplitr; · unfold cellInvs; iexact HC
    isplitr; · unfold slotInvs; iexact HS
    isplitr; · unfold reached0; iexact Hr
    iexact HL
  iexists K
  isplitr; · unfold recs; iexact HR
  isplitr [Pb Hbar Cb]
  · unfold all4
    icases P6 with ⟨P0, P1, P2, P3⟩
    icases Hd with ⟨D0, D1, D2, D3⟩
    icases Hsl with ⟨S0, S1, S2, S3⟩
    icases Hres with ⟨R0, R1, R2, R3⟩
    icases Hcm with ⟨C0, C1, C2, C3⟩
    icases Hac with ⟨A0, A1, A2, A3⟩
    icases Ci with ⟨I0, I1, I2, I3⟩
    isplitl [P0 D0 S0 R0 C0 A0 I0]
    · iapply (pipe_start I K c 0 g)
      isplitr; · iexact HR
      isplitl [C0]; · iexact C0
      isplitl [A0]; · iexact A0
      isplitl [R0]; · iexact R0
      isplitl [P0]; · iexact P0
      isplitl [D0]; · iexact D0
      isplitl [S0]; · iexact S0
      iexact I0
    isplitl [P1 D1 S1 R1 C1 A1 I1]
    · iapply (pipe_start I K c 1 g)
      isplitr; · iexact HR
      isplitl [C1]; · iexact C1
      isplitl [A1]; · iexact A1
      isplitl [R1]; · iexact R1
      isplitl [P1]; · iexact P1
      isplitl [D1]; · iexact D1
      isplitl [S1]; · iexact S1
      iexact I1
    isplitl [P2 D2 S2 R2 C2 A2 I2]
    · iapply (pipe_start I K c 2 g)
      isplitr; · iexact HR
      isplitl [C2]; · iexact C2
      isplitl [A2]; · iexact A2
      isplitl [R2]; · iexact R2
      isplitl [P2]; · iexact P2
      isplitl [D2]; · iexact D2
      isplitl [S2]; · iexact S2
      iexact I2
    · iapply (pipe_start I K c 3 g)
      isplitr; · iexact HR
      isplitl [C3]; · iexact C3
      isplitl [A3]; · iexact A3
      isplitl [R3]; · iexact R3
      isplitl [P3]; · iexact P3
      isplitl [D3]; · iexact D3
      isplitl [S3]; · iexact S3
      iexact I3
  unfold dealtBar
  icases Hbar with ⟨B0, B1⟩
  isplitl [B0]; · iexact B0
  isplitl [B1]; · iexact B1
  isplitl [Pb]; · iexact Pb
  iexact Cb

theorem sems_back (c : Dev nD) :
    iprop(semVal (barCell c) 0 ∗ all4 fun p => semsOf c p)
      ⊢ (iprop(semVal (barCell c) 0 ∗ Pipeline.ownSems0 (Ix := ℕ) (Name := ℕ) (U := UU) (Lvl := ℕ) (Val := Elt F) (τ := τ) osem c) : sProp 𝕄) := by
  rw [← sems_eq, ← bigSep_pipes]
  exact Entails.of_eq (bigSep_cells fun sm => (semVal ((c : Thread nD τ), sm) 0 : sProp 𝕄)).symm

theorem join_all (c : Dev nD) :
    iprop((all4 fun p => doneSt I c p) ∗ semVal (barCell c) 0) ⊢ (iprop(handed I c ∗ bufs c) : sProp 𝕄) := by
  unfold handed bufs doneSt
  rw [res_tiles]
  unfold all4
  iintro ⟨⟨⟨C0, A0, R0, S0⟩, ⟨C1, A1, R1, S1⟩, ⟨C2, A2, R2, S2⟩, ⟨C3, A3, R3, S3⟩⟩, Hb⟩
  isplitl [R0 R1 R2 R3 S0 S1 S2 S3 Hb]
  · isplitl [R0 R1 R2 R3]
    · isplitl [R0]; · iexact R0
      isplitl [R1]; · iexact R1
      isplitl [R2]; · iexact R2
      iexact R3
    iapply (sems_back c)
    isplitl [Hb]; · iexact Hb
    unfold all4
    isplitl [S0]; · iexact S0
    isplitl [S1]; · iexact S1
    isplitl [S2]; · iexact S2
    iexact S3
  isplitl [C0 C1 C2 C3]
  · isplitl [C0]; · iapply (comm_join c 0); iexact C0
    isplitl [C1]; · iapply (comm_join c 1); iexact C1
    isplitl [C2]; · iapply (comm_join c 2); iexact C2
    iapply (comm_join c 3); iexact C3
  isplitl [A0]; · iapply (acc_join c 0); iexact A0
  isplitl [A1]; · iapply (acc_join c 1); iexact A1
  isplitl [A2]; · iapply (acc_join c 2); iexact A2
  iapply (acc_join c 3); iexact A3

theorem close_all (c : Dev nD) :
    iprop(recs I K ∗ (all4 fun p => stZ I (ends I c 8 p) c p) ∗ atPos ER (barCell c) 1 ∅ 0)
      ⊢ iprop(|={Set.univ}=> (handed I c ∗ bufs c) : sProp 𝕄) := by
  unfold all4
  iintro ⟨#HR, ⟨H0, H1, H2, H3⟩, Hb⟩
  imod (close_pipe I K c 0) $$ [H0] with H0
  · isplitr; · iexact HR
    iexact H0
  imod (close_pipe I K c 1) $$ [H1] with H1
  · isplitr; · iexact HR
    iexact H1
  imod (close_pipe I K c 2) $$ [H2] with H2
  · isplitr; · iexact HR
    iexact H2
  imod (close_pipe I K c 3) $$ [H3] with H3
  · isplitr; · iexact HR
    iexact H3
  imod (close_bar I K c) $$ [Hb] with Hb
  · isplitr; · iexact HR
    iexact Hb
  imodintro
  iapply (join_all I c)
  isplitr [Hb]
  · unfold all4
    isplitl [H0]; · iexact H0
    isplitl [H1]; · iexact H1
    isplitl [H2]; · iexact H2
    iexact H3
  iexact Hb

/-! ## The scales -/

/-- The place in a one-element array. -/
def rect1 : Rect S1 := Rect.unit (s := S1) ![0] S1.size inb_S1_S1_0

/-- The two scales in device `c`'s SMEM. -/
def scalesAt (c : Dev nD) (a b : Vec F S1 .f32) : sProp 𝕄 :=
  iprop((sxM.view.loc (c : Thread nD τ) ↦{fullShare} (a : Buf (Elt F) (sxM.view.loc (c : Thread nD τ))))
    ∗ (swM.view.loc (c : Thread nD τ) ↦{fullShare} (b : Buf (Elt F) (swM.view.loc (c : Thread nD τ)))))

/-- The product of the two scales. -/
def scaleOf (a b : Vec F S1 .f32) : F .f32 :=
  Scalar.mulf ((sxM.access (Rect.unit (s := S1) ![0] S1.size inb_S1_S1_0)).read (Elt F) a (Shape.Idx.first (numel1_S1.symm ▸ Nat.one_pos)))
    ((swM.access (Rect.unit (s := S1) ![0] S1.size inb_S1_S1_0)).read (Elt F) b (Shape.Idx.first (numel1_S1.symm ▸ Nat.one_pos)))

theorem wpc_pure (c : Dev nD) {α : Type} (y : α) (Q : α → sProp 𝕄) : Q y ⊢ wpc c (pure y) Q :=
  fupd_intro.trans (Entails.of_eq (wp_ret _ _ _ y Q).symm)

theorem wpc_device (c : Dev nD) (Q : Dev nD → sProp 𝕄) : Q c ⊢ wpc c (Prog.lift .deviceId : P F (Dev nD)) Q :=
  (wpc_pure c c Q).trans (Entails.of_eq (wp_deviceId ..).symm)

theorem wp_readScale (c : Dev nD) (a b : Vec F S1 .f32) (Q : F .f32 → sProp 𝕄) :
    scalesAt c a b ⊢ iprop((scalesAt c a b -∗ Q (scaleOf a b)) -∗ wpc c readScale Q) := by
  unfold scalesAt readScale
  rw [wpc_bind]
  iintro ⟨Ha, Hb⟩ Hk
  unfold smemLoad
  iapply (wp_smemLoadElt 𝒱₀ (c : Thread nD τ) none Set.univ (m := sxM) (S := Finset.univ) (f := a) (Finset.subset_univ _)) $$ [Ha]
  · iexact Ha
  iintro Ha
  rw [wp_ret]; imodintro
  rw [wpc_bind]
  iapply (wp_smemLoadElt 𝒱₀ (c : Thread nD τ) none Set.univ (m := swM) (S := Finset.univ) (f := b) (Finset.subset_univ _)) $$ [Hb]
  · iexact Hb
  iintro Hb
  rw [wp_ret]; imodintro
  iapply (wpc_pure c _ _)
  unfold scaleOf
  iapply Hk
  isplitl [Ha] <;> iassumption

theorem duesSent_end (c : Dev nD) : duesSent c 13 = [] := by
  unfold duesSent; rw [if_neg (by decide)]

theorem wp_prog (c : Dev nD) (a b : Vec F S1 .f32) (hsc : scaleOf a b = I.sc c) (Q : PUnit → sProp 𝕄) :
    iprop(given I c ∗ bufs c ∗ xw I c ∗ scalesAt c a b ∗ owesL c (duesAll c))
      ⊢ iprop(((handed I c ∗ bufs c ∗ xw I c ∗ scalesAt c a b ∗ owesL c []) -∗ Q ⟨⟩) -∗ wpc c prog Q) := by
  unfold prog
  iintro ⟨Hg, Hb, Hx, Hs, HO⟩ Hk
  rw [wpc_bind]
  iapply (wpc_device c _)
  rw [wpc_bind]
  iapply (wp_readScale c a b _) $$ [Hs]; · iexact Hs
  iintro Hs
  rw [hsc]
  ihave H := (start_all I c) $$ [Hg Hb]
  · isplitl [Hg] <;> iassumption
  icases H with ⟨%K, #HR, Hst, Hbt⟩
  iapply (wp_fupd frame _ Set.univ)
  iapply (wp_rest I K c _) $$ [Hst Hbt Hx HO]
  · isplitr; · iexact HR
    isplitl [Hst]; · iexact Hst
    isplitl [Hbt]; · iexact Hbt
    isplitl [Hx]; · iexact Hx
    iexact HO
  iintro ⟨Hz, Hp, Hx, HO⟩
  rw [duesSent_end]
  imod (close_all I K c) $$ [Hz Hp] with ⟨Hh, Hb⟩
  · isplitr; · iexact HR
    isplitl [Hz] <;> iassumption
  imodintro
  iapply Hk
  isplitl [Hh]; · iexact Hh
  isplitl [Hb]; · iexact Hb
  isplitl [Hx]; · iexact Hx
  isplitl [Hs]; · iexact Hs
  iexact HO

end Cert.KernelIdeal.Pipes

end
-- ==== Proof.Body.lean ====
/- The printed body is the program of `Prog.lean`. -/
module

public import proofs.«01_k».proof.Proof.Prog
public import Idealize.ShloMosaic.Lib.Pipeline.Regions

@[expose] public section

noncomputable section

namespace Cert.KernelIdeal.Pipes

open Idealize.ShloMosaic Idealize.SL.Sem Cert.KernelIdeal.Gen

variable {F : FTy → Type} [FloatOps F]

set_option maxRecDepth 65536 in
/-- The printed body, on the buffers the launch gives it, is `prog`. -/
theorem body_eq (t : Fin cfg0.N) : (bodyAt0 t : P F PUnit) = prog := by chain_rfl

end Cert.KernelIdeal.Pipes

end
-- ==== Proof.Launch.lean ====
/- The launch: the body's triple as the pipeline's obligation, and the run of the whole program on the eight devices. -/
module

public import proofs.«01_k».proof.Proof.Whole
public import proofs.«01_k».proof.Proof.Body
public import proofs.«01_k».proof.Proof.Gen.KernelIdeal.Points
public import proofs.«01_k».proof.Proof.Gen.KernelIdeal.Launch
public import Idealize.ShloMosaic.Lib.Pipeline.CollectiveSegs

@[expose] public section

noncomputable section

namespace Cert.KernelIdeal.Pipes

open Cert.KernelIdeal.Gen
open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

attribute [local irreducible] dues duesSent duesAll

/-! ## Contents -/

/-- The state at launch: counters at zero. -/
def s₀ : MemSt nD τ sig (Elt F) := ⟨m, fun _ => 0, ρ⟩

/-- The first scale as device `c` stages it. -/
def scX (c : Dev nD) : Vec F S1 .f32 := (win0_2.blk (0 : Fin 1)).view.read (Elt F) (m ((c : Thread nD τ).loc main_arg2))
/-- The second scale as device `c` stages it. -/
def scW (c : Dev nD) : Vec F S1 .f32 := (win0_3.blk (0 : Fin 1)).view.read (Elt F) (m ((c : Thread nD τ).loc main_arg3))

/-- The operands that memory `m` holds. -/
def inputs : Inputs F where
  x c := (win0_0.blk (0 : Fin 1)).view.read (Elt F) (m ((c : Thread nD τ).loc main_arg0))
  w c := (win0_1.blk (0 : Fin 1)).view.read (Elt F) (m ((c : Thread nD τ).loc main_arg1))
  sc c := scaleOf (scX m c) (scW m c)

/-- What device `c` holds before the body. -/
def Φ₀ (c : Dev nD) : sProp 𝕄 := iprop(given (inputs m) c ∗ bufs c)
/-- What device `c` holds after the body. -/
def Φ₁ (c : Dev nD) : sProp 𝕄 := iprop(handed (inputs m) c ∗ bufs c)

/-- The pipeline's data: four operands staged once, nothing written back by the pipeline. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inputs m).x c
    | ⟨1, _⟩ => (inputs m).w c
    | ⟨2, _⟩ => scX m c
    | ⟨3, _⟩ => scW m c
  Φ t := match t with
    | ⟨0, _⟩ => Φ₀ m c
    | ⟨_ + 1, _⟩ => Φ₁ m c
  q _ := fullShare
  owed t := match t with
    | ⟨0, _⟩ => tal (duesAll c)
    | ⟨_ + 1, _⟩ => 0

theorem owns_buf (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The one point of the grid. -/
def t₀ : Fin cfg0.N := t0_0

/-- The body's precondition. -/
def bodyPre (c : Dev nD) : sProp 𝕄 :=
  iprop(Φ₀ m c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- The body's postcondition. -/
def bodyPost (c : Dev nD) : sProp 𝕄 :=
  iprop(Φ₁ m c ∗ (dats m ρ 0 c).owesAt 0 t₀.succ
    ∗ stg c cc0_stg0_0 ((inputs m).x c) ∗ stg c cc0_stg1_0 ((inputs m).w c)
    ∗ stg c cc0_stg2_0 (scX m c) ∗ stg c cc0_stg3_0 (scW m c))

theorem before_0 (c : Dev nD) (d) : (dats m ρ 0 c).before (0 : Fin 4) t₀ d = (inputs m).x c := by
  unfold Dat.before; rw [if_pos (fetch0_0 t₀)]; rfl
theorem before_1 (c : Dev nD) (d) : (dats m ρ 0 c).before (1 : Fin 4) t₀ d = (inputs m).w c := by
  unfold Dat.before; rw [if_pos (fetch0_1 t₀)]; rfl
theorem before_2 (c : Dev nD) (d) : (dats m ρ 0 c).before (2 : Fin 4) t₀ d = scX m c := by
  unfold Dat.before; rw [if_pos (fetch0_2 t₀)]; rfl
theorem before_3 (c : Dev nD) (d) : (dats m ρ 0 c).before (3 : Fin 4) t₀ d = scW m c := by
  unfold Dat.before; rw [if_pos (fetch0_3 t₀)]; rfl

theorem sound_body (c : Dev nD) : bodyPre m ρ c ⊢ wpc c (prog (F := F)) (fun _ => bodyPost m ρ c) := by
  unfold bodyPre bodyPost stg
  simp only [before_0, before_1, before_2, before_3]
  iintro ⟨HΦ, Ho, ⟨%d0, %f0, %h0, H0⟩, ⟨%d1, %f1, %h1, H1⟩, ⟨%d2, %f2, %h2, H2⟩, ⟨%d3, %f3, %h3, H3⟩⟩
  subst h0 h1 h2 h3
  unfold Dat.owesAt Pipeline.owesWithin Φ₀ Φ₁
  icases Ho with ⟨%W, %hW, HO⟩
  icases HΦ with ⟨Hg, Hb⟩
  iapply (wp_prog (inputs m) c (scX m c) (scW m c) rfl _) $$ [Hg Hb H0 H1 H2 H3 HO]
  · isplitl [Hg]; · iexact Hg
    isplitl [Hb]; · iexact Hb
    isplitl [H0 H1]
    · unfold xw
      isplitl [H0]; · iexact H0
      iexact H1
    isplitl [H2 H3]
    · unfold scalesAt
      isplitl [H2]; · iexact H2
      iexact H3
    unfold owesL
    iexists W; iexact HO
  unfold xw scalesAt owesL
  iintro ⟨Hh, Hb, ⟨H0, H1⟩, ⟨H2, H3⟩, ⟨%W', HO⟩⟩
  isplitl [Hh Hb]
  · isplitl [Hh] <;> iassumption
  isplitl [HO]
  · iexists W'
    isplitr; · (ipureintro; exact fun _ _ => Or.inl trivial)
    rw [show (dats m ρ 0 c).owed t₀.succ = 0 from rfl]
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 65536 in
theorem body_obligation (c : Dev nD) : BodyObligation (dats m ρ 0 c) (defs₀ (F := F)) 𝒱₀ 0 Set.univ := fun t => by
  rw [show t = t₀ from fin_N0 t]
  rw [bigSep_W, bigSep_W]
  simp only [owns_buf]
  show bodyPre m ρ c ⊢ wp frame (wpE (defs₀ (F := F)) 𝒱₀ c none) Set.univ (bodyAt0 t₀) (fun _ => bodyPost m ρ c)
  rw [body_eq]
  exact sound_body m ρ c

end Cert.KernelIdeal.Pipes

end
-- ==== Proof.Run.lean ====
/- The run of the whole program on the eight devices: it ends, the operands stay, every device's result is `Inputs.out`,
and all counters end at zero. -/
module

public import proofs.«01_k».proof.Proof.Launch

@[expose] public section

noncomputable section

namespace Cert.KernelIdeal.Pipes

open Cert.KernelIdeal.Gen
open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

attribute [local irreducible] dues duesSent duesAll

theorem ownSemFacts : Pipeline.OwnSemFacts cfg0.spec osem := by decide

theorem share_eq (c : Dev nD) (w : Fin cfg0.W) : (dats m ρ 0 c).share w = fullShare := by unfold Dat.share; split <;> rfl

/-- The scoped buffers that are no staging buffer are the communication buffers and the accumulators. -/
theorem rest_eq (c : Dev nD) : (Pipeline.scopedRest (Ix := ℕ) (Name := ℕ) (U := UU) (Lvl := ℕ) (Val := Elt F) cfg0.spec c : sProp 𝕄)
    = iprop(commAny c 0 ∗ commAny c 1 ∗ commAny c 2 ∗ commAny c 3 ∗ accWhole c 0 ∗ accWhole c 1 ∗ accWhole c 2 ∗ accWhole c 3) :=
  (scopedRest0_eq c).trans rfl

theorem bufs_rest (c : Dev nD) : (Pipeline.scopedRest (Ix := ℕ) (Name := ℕ) (U := UU) (Lvl := ℕ) (Val := Elt F) cfg0.spec c : sProp 𝕄) ⊢ bufs c := by
  rw [rest_eq]
  unfold bufs all4
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7

theorem rest_bufs (c : Dev nD) : (bufs c : sProp 𝕄) ⊢ Pipeline.scopedRest (Ix := ℕ) (Name := ℕ) (U := UU) (Lvl := ℕ) (Val := Elt F) cfg0.spec c := by
  rw [rest_eq]
  unfold bufs all4
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What a device keeps to the very end. -/
def kept (c : Dev nD) : sProp 𝕄 := iprop(unscopedSems0 c ∗ resAt c ((inputs m).out c))

theorem given_intro (c : Dev nD) :
    iprop(Pipeline.unscopedRestP Pipeline.Prefetch.none cfg0.spec c (fun b => m ((c : Thread nD τ).loc b)) ∗ levAts L lv
        ∗ Pipeline.launchCred (fun d => tal (duesAll d)) c ∗ prngReg c (ρ c) ∗ G' (inputs m) c)
      ⊢ |={Set.univ}=> iprop(given (inputs m) c ∗ emp) := by
  rw [Pipeline.unscopedRestP_none, unscopedRest0_eq]
  iintro ⟨Hr, Hl, Hc, -, HG⟩
  ihave Hc := (launch_cred c) $$ Hc
  imodintro
  unfold given
  isplitl
  · isplitl [HG]; · iexact HG
    isplitl [Hl]; · iexact Hl
    isplitl [Hc]; · iexact Hc
    unfold resAt
    iexists _; iexact Hr
  · iempintro

theorem enter (c : Dev nD) :
    iprop(given (inputs m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hb⟩
  isplitl [Hs]; · iexact Hs
  iapply (bufs_rest c); iexact Hb

theorem leave (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁ handed kept
  rw [unscoped_eq]
  iintro ⟨⟨Hr, Hb, Ho⟩, Hs⟩
  isplitl [Hr Hb]
  · isplitl [Hb] <;> iassumption
  isplitl [Ho]; · iexact Ho
  iapply (rest_bufs c); iexact Hs

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ (by decide) (above_all c)
    · exact mayWait c _ (by decide) (l := []) (fun x hx => absurd hx List.not_mem_nil)

/-- What is read of device `c` at the end. -/
def endC (c : Dev nD) (s : MemSt nD τ sig (Elt F)) : Prop :=
  (∀ sm : SemLoc sig, sm.isScoped .tc = false → s.sem ((c.tc : Thread nD τ), sm) = 0)
    ∧ s.mem ((c : Thread nD τ).loc main_v1) = (inputs m).out c

theorem read_end (c : Dev nD) (s' : Phys nD τ sig (Elt F)) :
    iprop(kept m c ∗ emp ∗ SI s') ⊢ (|={Set.univ}=> iprop(⌜endC m c s'.mem⌝ ∗ SI s') : sProp 𝕄) := by
  unfold kept resAt
  iintro ⟨⟨Hu, Hr⟩, -, HSI⟩
  ihave %hr := (SI_pointsTo_agree (st := s')) $$ [HSI Hr]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hr i (Finset.mem_univ i)⟩
  iexact HSI

/-- What window `w`'s array of device `c` holds at the end. -/
def finalA (c : Dev nD) (w : Fin cfg0.W) : Buf (Elt F) ((cfg0.win w).arr.view.loc (c : Thread nD τ)) := (dats m ρ 0 c).arrAt w cfg0.N

/-- The final state: operands as the pipeline leaves them, results computed. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_v1) = (inputs m).out c

set_option maxRecDepth 65536 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := fun d => tal (duesAll d)) (howed₀ := fun _ => rfl) (howedN := fun _ => rfl)
    (L := L) (lv := lv) (hL := L_of_ne) (hwaits := waits m ρ)
    (G := G (inputs m)) (G' := G' (inputs m)) (u₀ := u₀) (hu₀ := fund_all (inputs m)) (hglob := alloc_all (inputs m))
    (hA := fun _ _ => rfl) (hpf := fun _ k => k.elim0)
    (X := given (inputs m)) (Y := kept m) (Z := fun _ => iprop(emp))
    (hX := given_intro m ρ) (hin := enter m ρ) (hout := leave m ρ)
    (QY := endC m) (hY := read_end m)
    (hQ := fun _ h hs => ⟨fun c => ⟨(h c).1, (h c).2.2.2⟩, sem_eq_zero hs fun c => (h c).2.2.1⟩)

/-- The operands' arrays are only read. -/
theorem finalA_eq (c : Dev nD) (w : Fin cfg0.W) : finalA m ρ c w = m ((cfg0.win w).arr.view.loc (c : Thread nD τ)) := by
  fin_cases w
  · exact (dats m ρ 0 c).arrAt_in (0 : Fin 4) rfl _
  · exact (dats m ρ 0 c).arrAt_in (1 : Fin 4) rfl _
  · exact (dats m ρ 0 c).arrAt_in (2 : Fin 4) rfl _
  · exact (dats m ρ 0 c).arrAt_in (3 : Fin 4) rfl _

end Cert.KernelIdeal.Pipes

end
-- ==== Proof.Frames.lean ====
/- The frames of the kernel, at the machine's floats and at exact ones: both are the run of `Run.lean`. -/
module

public import proofs.«01_k».proof.Defs
public import proofs.«01_k».proof.Proof.Run
public import proofs.«01_k».proof.Proof.Gen.Kernel
public import proofs.«01_k».proof.Proof.Gen.ReferenceIdeal

@[expose] public section

noncomputable section

namespace Cert.Proof

open Idealize.ShloMosaic Idealize.ShloMosaic.TcCoe Idealize.SL.Sem
open Cert.KernelIdeal.Pipes

variable {F : FTy → Type} [FloatOps F]

section

open Cert.KernelIdeal

/-- The run, told of the four arguments and the result. -/
theorem run_args (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = (inputs m).out c)
      ∧ r.2.sem = fun _ => 0) :=
  (θ_run defs _ _).mono (fun r h => ⟨fun c =>
    ⟨((h.1 c).1 (0 : Fin 4)).trans (finalA_eq m g c (0 : Fin 4)), ((h.1 c).1 (1 : Fin 4)).trans (finalA_eq m g c (1 : Fin 4)),
      ((h.1 c).1 (2 : Fin 4)).trans (finalA_eq m g c (2 : Fin 4)), ((h.1 c).1 (3 : Fin 4)).trans (finalA_eq m g c (3 : Fin 4)), (h.1 c).2⟩, h.2⟩)
    (run_main m g)

/-- The run, told of the four arguments. -/
theorem run_frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (run_args m g)

theorem frame_ideal : Cert.quiescent_KernelIdeal (hKernelIdeal := Cert.KernelIdeal.Gen.facts) := fun m g _ => run_frame (F := Ideal) m g

end

/-- The two programs have the same text: the frame of the one, at the machine's floats, is the frame of the other. -/
theorem same_text : Cert.quiescent_Kernel (hKernel := Cert.Kernel.Gen.facts)
    = ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) := by
  chain_rfl

theorem frame_kernel : Cert.quiescent_Kernel (hKernel := Cert.Kernel.Gen.facts) := same_text ▸ fun m g _ => run_frame (F := Bits) m g

end Cert.Proof

end
-- ==== Proof.Exact.lean ====
/- The kernel's payloads over exact numbers: casts and roundings drop away, and what a pipe sends at its last hop is
the sum of eight products. -/
module

public import proofs.«01_k».proof.Proof.Ring
public import proofs.«01_k».proof.Proof.Gen.KernelIdeal
public import Idealize.ShloMosaic.Lib.MatmulPlain
public import Idealize.ShloMosaic.Lib.ValueIdx
public import Idealize.ShloMosaic.Lib.Pipeline.Value

@[expose] public section

noncomputable section

namespace Cert.KernelIdeal.Pipes

open Idealize.ShloMosaic Idealize.ShloMosaic.ValueIdx Cert.KernelIdeal.Gen
open Idealize.ShloMosaic.TcCoe
open scoped BigOperators

theorem dot_plain : dot_S512x512_S512x2048_S512x2048_1_0_0_1_n_n = DotDims.plain 512 512 2048 := rfl

/-! ## Payloads -/

theorem prodOf_apply (x : Vec Ideal S512x512 .fp8e4m3) (w : Vec Ideal S512x2048 .fp8e4m3) (r : Fin 512) (j : Fin 2048) :
    prodOf (F := Ideal) x w (ix2 r j) = ∑ k : Fin 512, x (ix2 r k) * w (ix2 k j) := by
  unfold prodOf
  rw [shapeCast_self, shapeCast_self]
  have h := Ideal.matmul_plain_apply (M := 512) (K := 512) (N := 2048) none (extf (F := Ideal) .bf16 x bitsLt_fp8e4m3_bf16)
    (extf .bf16 w bitsLt_fp8e4m3_bf16) (constant S512x2048 .f32 0x00000000#32) r j
  rw [constant_apply, Ideal.ofBits_zero_f32, zero_add] at h
  exact h

/-- A slot's place `(r, j)`. -/
def at3 (r : Fin 512) (j : Fin 2048) : S1x512x2048.Idx := Fin.cons ⟨0, Nat.one_pos⟩ (ix2 r j)

theorem keepOf_apply (x : Vec Ideal S512x512 .fp8e4m3) (w : Vec Ideal S512x2048 .fp8e4m3) (r : Fin 512) (j : Fin 2048) :
    keepOf (F := Ideal) x w (ix2 r j) = ∑ k : Fin 512, x (ix2 r k) * w (ix2 k j) := by
  unfold keepOf
  rw [shapeCast_self, prodOf_apply]

theorem firstOf_apply (x : Vec Ideal S512x512 .fp8e4m3) (w : Vec Ideal S512x2048 .fp8e4m3) (r : Fin 512) (j : Fin 2048) :
    firstOf (F := Ideal) x w (at3 r j) = ∑ k : Fin 512, x (ix2 r k) * w (ix2 k j) := by
  unfold firstOf
  refine (shapeCast_addUnit_apply ![512, 2048] _ _ (at3 r j)).trans ?_
  exact prodOf_apply x w r j

theorem sumOf_apply (v : Vec Ideal S1x512x2048 .bf16) (a : Vec Ideal S512x2048 .f32) (r : Fin 512) (j : Fin 2048) :
    sumOf (F := Ideal) v a (at3 r j) = v (at3 r j) + a (ix2 r j) := by
  unfold sumOf
  refine (shapeCast_addUnit_apply ![512, 2048] _ _ (at3 r j)).trans ?_
  exact congrArg (· + a (ix2 r j)) (shapeCast_dropUnit_apply ![512, 2048] v shapeCasts_S1x512x2048_S512x2048 (ix2 r j))

theorem doneOf_apply (s : EReal) (v : Vec Ideal S1x512x2048 .bf16) (r : Fin 512) (j : Fin 2048) :
    doneOf (F := Ideal) s v (ix2 r j) = max (v (at3 r j) * s) 0 := by
  unfold doneOf
  rw [shapeCast_self]
  show max (shapeCast S512x2048 v shapeCasts_S1x512x2048_S512x2048 (ix2 r j) * s) (Ideal.ofBits .f32 0x00000000#32) = _
  rw [Ideal.ofBits_zero_f32]
  exact congrArg (fun z => max (z * s) 0) (shapeCast_dropUnit_apply ![512, 2048] v shapeCasts_S1x512x2048_S512x2048 (ix2 r j))

/-! ## Operands -/

variable (I : Inputs Ideal)

theorem rows_apply (c : Dev nD) (o : ℕ) (off : Fin 2 → ℕ) (e : off = ![o, 0]) (hoff : ∀ a, off a + S512x512.size a ≤ S4096x512.size a)
    (ho : o + 512 ≤ 4096) (r k : Fin 512) : I.rows c off hoff (ix2 r k) = I.x c (ix2 ⟨o + r.val, by omega⟩ k) := by
  subst e
  refine congrArg (I.x c) ?_
  funext a; apply Fin.ext
  match a with
  | ⟨0, _⟩ => show o + 1 * r.val = o + r.val; omega
  | ⟨1, _⟩ => show 0 + 1 * k.val = k.val; omega

theorem cols_apply (c : Dev nD) (p : Fin 4) (k : Fin 512) (j : Fin 2048) :
    I.cols c p (ix2 k j) = I.w c (ix2 k ⟨2048 * p.val + j.val, by omega⟩) := by
  refine congrArg (I.w c) ?_
  funext a; apply Fin.ext
  match p, a with
  | ⟨0, _⟩, ⟨0, _⟩ => show 0 + 1 * k.val = k.val; omega
  | ⟨1, _⟩, ⟨0, _⟩ => show 0 + 1 * k.val = k.val; omega
  | ⟨2, _⟩, ⟨0, _⟩ => show 0 + 1 * k.val = k.val; omega
  | ⟨3, _⟩, ⟨0, _⟩ => show 0 + 1 * k.val = k.val; omega
  | ⟨0, _⟩, ⟨1, _⟩ => show 0 + 1 * j.val = 2048 * 0 + j.val; omega
  | ⟨1, _⟩, ⟨1, _⟩ => show 2048 + 1 * j.val = 2048 * 1 + j.val; omega
  | ⟨2, _⟩, ⟨1, _⟩ => show 4096 + 1 * j.val = 2048 * 2 + j.val; omega
  | ⟨3, _⟩, ⟨1, _⟩ => show 6144 + 1 * j.val = 2048 * 3 + j.val; omega

/-! ## The chain of one block -/

/-- The rows every device on the way adds to block `b` are rows `512 b` and on. -/
theorem rowOff_chain (b : Fin 8) (p : Fin 4) (k : Fin 7) : rowOff (back p (6 - k.val) (fin b p)) k p = ![512 * b.val, 0] := by
  revert b p k; decide +kernel

theorem firstOff_chain (b : Fin 8) (p : Fin 4) : k0_off1 (back p 7 (fin b p)) = ![512 * b.val, 0] := by
  revert b p; decide +kernel

/-- Eight steps visit every device once. -/
def visits (b : Fin 8) (p : Fin 4) : Fin 8 ≃ Dev nD :=
  Equiv.ofBijective (fun n => back p n.val (fin b p)) (by
    constructor
    · revert b p; decide +kernel
    · revert b p; decide +kernel)

/-- The part of a block's entry that device `d` adds. -/
def share (b : Fin 8) (p : Fin 4) (r : Fin 512) (j : Fin 2048) (d : Dev nD) : EReal :=
  ∑ k : Fin 512, I.x d (ix2 ⟨512 * b.val + r.val, by omega⟩ k) * I.w d (ix2 k ⟨2048 * p.val + j.val, by omega⟩)

theorem val_zero (b : Fin 8) (p : Fin 4) (r : Fin 512) (j : Fin 2048) :
    I.val 0 (back p 7 (fin b p)) p (at3 r j) = share I b p r j (back p 7 (fin b p)) := by
  show firstOf _ _ _ = _
  rw [firstOf_apply]
  refine Finset.sum_congr rfl fun k _ => ?_
  rw [rows_apply I _ (512 * b.val) _ (firstOff_chain b p) _ (by omega), cols_apply]

theorem part_chain (b : Fin 8) (p : Fin 4) (k : Fin 7) (r : Fin 512) (j : Fin 2048) :
    I.part (back p (6 - k.val) (fin b p)) k p (ix2 r j) = share I b p r j (back p (6 - k.val) (fin b p)) := by
  show keepOf _ _ _ = _
  rw [keepOf_apply]
  refine Finset.sum_congr rfl fun k' _ => ?_
  rw [rows_apply I _ (512 * b.val) _ (rowOff_chain b p k) _ (by omega), cols_apply]

theorem upst_back (p : Fin 4) : ∀ (n : ℕ) (c : Dev nD), upst (back p n c) p = back p (n + 1) c
  | 0, _ => rfl
  | n + 1, c => upst_back p n (upst c p)

/-- One hop adds the share of the device it arrives at. -/
theorem val_step (b : Fin 8) (p : Fin 4) (k : Fin 7) (r : Fin 512) (j : Fin 2048) :
    I.val (k.val + 1) (back p (6 - k.val) (fin b p)) p (at3 r j)
      = I.val k.val (back p (7 - k.val) (fin b p)) p (at3 r j) + share I b p r j (back p (6 - k.val) (fin b p)) := by
  rw [val_add, sumOf_apply, part_chain, upst_back, show 6 - k.val + 1 = 7 - k.val by omega]

/-- A finished block's entry is the sum of all the devices' shares. -/
theorem val_done (b : Fin 8) (p : Fin 4) (r : Fin 512) (j : Fin 2048) :
    I.val 7 (fin b p) p (at3 r j) = ∑ d : Dev nD, share I b p r j d := by
  have h6 := val_step I b p 6 r j
  have h5 := val_step I b p 5 r j
  have h4 := val_step I b p 4 r j
  have h3 := val_step I b p 3 r j
  have h2 := val_step I b p 2 r j
  have h1 := val_step I b p 1 r j
  have h0 := val_step I b p 0 r j
  have hz := val_zero I b p r j
  rw [← Equiv.sum_comp (visits b p), Fin.sum_univ_eight]
  refine h6.trans ?_
  refine (congrArg (· + _) (h5.trans (congrArg (· + _) (h4.trans (congrArg (· + _) (h3.trans (congrArg (· + _)
    (h2.trans (congrArg (· + _) (h1.trans (congrArg (· + _) (h0.trans (congrArg (· + _) hz))))))))))))).trans ?_
  show share I b p r j (back p 7 (fin b p)) + share I b p r j (back p 6 (fin b p)) + share I b p r j (back p 5 (fin b p))
    + share I b p r j (back p 4 (fin b p)) + share I b p r j (back p 3 (fin b p)) + share I b p r j (back p 2 (fin b p))
    + share I b p r j (back p 1 (fin b p)) + share I b p r j (back p 0 (fin b p))
    = share I b p r j (back p 0 (fin b p)) + share I b p r j (back p 1 (fin b p)) + share I b p r j (back p 2 (fin b p))
    + share I b p r j (back p 3 (fin b p)) + share I b p r j (back p 4 (fin b p)) + share I b p r j (back p 5 (fin b p))
    + share I b p r j (back p 6 (fin b p)) + share I b p r j (back p 7 (fin b p))
  simp only [add_assoc, add_comm, add_left_comm]

end Cert.KernelIdeal.Pipes

end
-- ==== Proof.RefWhole.lean ====
/- What the reference leaves in its result: its one payload, of the whole arguments. -/
module

public import proofs.«01_k».proof.Proof.Gen.ReferenceIdeal.Value
public import Idealize.ShloMosaic.Lib.Pipeline.ValueKit.Basic

@[expose] public section

noncomputable section

namespace Cert.ReferenceIdeal.Whole

open Cert.ReferenceIdeal Cert.ReferenceIdeal.Gen Idealize.ShloMosaic Idealize.ShloMosaic.TcCoe Idealize.ShloMosaic.Tactic

variable {F : FTy → Type} [FloatOps F]
variable (m : (ℓ : Loc nD τ sig) → Buf (Elt F) ℓ)

/-! ## A window is its whole array -/

theorem emb0 (t : Fin cfg0.N) (y : S4096x4096.Idx) : (win0_0.blk t).view.emb y = y := by
  funext a; apply Fin.ext; show 0 * _ + 1 * (y a).val = _; omega
theorem emb1 (t : Fin cfg0.N) (y : S4096x8192.Idx) : (win0_1.blk t).view.emb y = y := by
  funext a; apply Fin.ext; show 0 * _ + 1 * (y a).val = _; omega
theorem emb2 (t : Fin cfg0.N) (y : S1.Idx) : (win0_2.blk t).view.emb y = y := by
  funext a; apply Fin.ext; show 0 * _ + 1 * (y a).val = _; omega
theorem emb3 (t : Fin cfg0.N) (y : S1.Idx) : (win0_3.blk t).view.emb y = y := by
  funext a; apply Fin.ext; show 0 * _ + 1 * (y a).val = _; omega
theorem emb4 (t : Fin cfg0.N) (y : S4096x8192.Idx) : (win0_4.blk t).view.emb y = y := by
  funext a; apply Fin.ext; show 0 * _ + 1 * (y a).val = _; omega

theorem iblk0 (c : Dev nD) (t : Fin cfg0.N) : iblk m c 0 t = m ((c : Thread nD τ).loc main_arg0) := by
  funext y
  show V m c main_arg0 ((win0_0.blk t).view.emb y) = _
  rw [emb0, V_main_arg0]
theorem iblk1 (c : Dev nD) (t : Fin cfg0.N) : iblk m c 1 t = m ((c : Thread nD τ).loc main_arg1) := by
  funext y
  show V m c main_arg1 ((win0_1.blk t).view.emb y) = _
  rw [emb1, V_main_arg1]
theorem iblk2 (c : Dev nD) (t : Fin cfg0.N) : iblk m c 2 t = m ((c : Thread nD τ).loc main_arg2) := by
  funext y
  show V m c main_arg2 ((win0_2.blk t).view.emb y) = _
  rw [emb2, V_main_arg2]
theorem iblk3 (c : Dev nD) (t : Fin cfg0.N) : iblk m c 3 t = m ((c : Thread nD τ).loc main_arg3) := by
  funext y
  show V m c main_arg3 ((win0_3.blk t).view.emb y) = _
  rw [emb3, V_main_arg3]

/-! ## The result -/

/-- The one place of a scale. -/
def only : S1.Idx := Shape.Idx.first (numel1_S1.symm ▸ Nat.one_pos)

/-- The body's one store is its payload at the staged blocks. -/
theorem out_term (c : Dev nD) (t : Fin cfg0.N) :
    out0_A_4 c (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t)
    = k0_pay1 (iblk m c 0 t) (iblk m c 1 t) (iblk m c 2 t only) (iblk m c 3 t only) := by
  unfold out0_A_4
  rw [View.read_writes_eq_canon _ _ _ (cover0_A_4 c _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine (View.canon_cons_unit_lit (S := S4096x8192) inb_S4096x8192_S4096x8192_0_0 _ _ (by decide)).trans ?_
  rw [View.ld_unit_lit (S := S4096x4096) inb_S4096x4096_S4096x4096_0_0 _ (by decide),
    View.ld_unit_lit (S := S4096x8192) inb_S4096x8192_S4096x8192_0_0 _ (by decide)]
  congr 1
  · exact congrFun (View.ld_unit_lit (S := S1) inb_S1_S1_0 (iblk m c 2 t) (by decide)) only
  · exact congrFun (View.ld_unit_lit (S := S1) inb_S1_S1_0 (iblk m c 3 t) (by decide)) only

set_option maxRecDepth 32768 in
/-- The reference's result, from the whole arguments. -/
theorem result (c : Dev nD) :
    (dats m 0 c).arrAt 4 cfg0.N = k0_pay1 (m ((c : Thread nD τ).loc main_arg0)) (m ((c : Thread nD τ).loc main_arg1))
      (m ((c : Thread nD τ).loc main_arg2) only) (m ((c : Thread nD τ).loc main_arg3) only) := by
  have t : Fin cfg0.N := (0 : Fin 1)
  have h := Value.blocks4 m c t ((by decide +kernel : ∀ t : Fin grid0.N, win0_4.flush t = true) t)
  rw [Value.flushed4_A, out_term, iblk0, iblk1, iblk2, iblk3] at h
  funext y
  exact (congrArg ((dats m 0 c).arrAt 4 cfg0.N) (emb4 t y).symm).trans (congrFun h y)

end Cert.ReferenceIdeal.Whole

end
-- ==== Proof.RefExact.lean ====
/- The reference's payload over exact numbers: the product of the matrices, scaled, clipped at zero. -/
module

public import proofs.«01_k».proof.Proof.RefWhole
public import Idealize.ShloMosaic.Lib.MatmulPlain
public import Idealize.ShloMosaic.Lib.ValueIdx

@[expose] public section

noncomputable section

namespace Cert.ReferenceIdeal.Whole

open Cert.ReferenceIdeal Cert.ReferenceIdeal.Gen Idealize.ShloMosaic Idealize.ShloMosaic.ValueIdx
open scoped BigOperators

theorem dot_plain : dot_S4096x4096_S4096x8192_S4096x8192_1_0_0_1_n_n = DotDims.plain 4096 4096 8192 := rfl

theorem pay_apply (x : Vec Ideal S4096x4096 .fp8e4m3) (w : Vec Ideal S4096x8192 .fp8e4m3) (a b : EReal) (i : Fin 4096) (j : Fin 8192) :
    k0_pay1 (F := Ideal) x w a b (ix2 i j) = max ((∑ k : Fin 4096, x (ix2 i k) * w (ix2 k j)) * (a * b)) 0 := by
  show max (FloatOps.matmul dot_S4096x4096_S4096x8192_S4096x8192_1_0_0_1_n_n none (extf (F := Ideal) .f32 x bitsLt_fp8e4m3_f32)
    (extf .f32 w bitsLt_fp8e4m3_f32) (constant S4096x8192 .f32 0x00000000#32) (ix2 i j) * (a * b)) (Ideal.ofBits .f32 0x00000000#32) = _
  have h := Ideal.matmul_plain_apply (M := 4096) (K := 4096) (N := 8192) none (extf (F := Ideal) .f32 x bitsLt_fp8e4m3_f32)
    (extf .f32 w bitsLt_fp8e4m3_f32) (constant S4096x8192 .f32 0x00000000#32) i j
  rw [dot_plain, h, Ideal.ofBits_zero_f32, constant_apply, Ideal.ofBits_zero_f32, zero_add]
  rfl

end Cert.ReferenceIdeal.Whole

end
-- ==== Proof.Value.lean ====
/- The result of every device, over exact numbers, is the reference's result. -/
module

public import proofs.«01_k».proof.Proof.Frames
public import proofs.«01_k».proof.Proof.Exact
public import proofs.«01_k».proof.Proof.RefExact
public import Mathlib.Logic.Equiv.Fin.Basic

@[expose] public section

noncomputable section

namespace Cert.Proof

open Idealize.ShloMosaic Idealize.ShloMosaic.ValueIdx Idealize.ShloMosaic.TcCoe Idealize.SL.Sem
open Cert.KernelIdeal.Pipes
open scoped BigOperators

/-- A sum over 4096 places, taken 512 at a time. -/
theorem sum_blocks (f : Fin 4096 → EReal) :
    ∑ d : Fin 8, ∑ k : Fin 512, f ⟨512 * d.val + k.val, by omega⟩ = ∑ k : Fin 4096, f k := by
  rw [← Equiv.sum_comp (finProdFinEquiv (m := 8) (n := 512)) f, Fintype.sum_prod_type]
  refine Finset.sum_congr rfl fun d _ => Finset.sum_congr rfl fun k _ => congrArg f (Fin.ext ?_)
  show 512 * d.val + k.val = k.val + 512 * d.val
  omega

section Operands

open Cert.KernelIdeal

variable (m : (ℓ : Loc nD τ sig) → Buf (Elt Ideal) ℓ)

/-- A staged operand is its whole array. -/
theorem x_whole (c : Dev nD) : (inputs m).x c = m ((c : Thread nD τ).loc main_arg0) := by
  funext y
  refine congrArg (m ((c : Thread nD τ).loc main_arg0)) ?_
  funext a; apply Fin.ext; show 0 * _ + 1 * (y a).val = _; omega

theorem w_whole (c : Dev nD) : (inputs m).w c = m ((c : Thread nD τ).loc main_arg1) := by
  funext y
  refine congrArg (m ((c : Thread nD τ).loc main_arg1)) ?_
  funext a; apply Fin.ext; show 0 * _ + 1 * (y a).val = _; omega

/-- A scale has one place. -/
theorem one_place (y z : S1.Idx) : y = z := by
  funext a; apply Fin.ext
  match a with
  | ⟨0, _⟩ =>
    have hy : (y 0).val < 1 := (y 0).isLt
    have hz : (z 0).val < 1 := (z 0).isLt
    show (y 0).val = (z 0).val
    omega

/-- The scale is the product of the two scales' one entries. -/
theorem sc_whole (c : Dev nD) (s t : S1.Idx → EReal) (hs : m ((c : Thread nD τ).loc main_arg2) = s)
    (ht : m ((c : Thread nD τ).loc main_arg3) = t) (y : S1.Idx) : (inputs m).sc c = s y * t y := by
  subst hs ht
  exact congrArg₂ (fun a b : EReal => a * b) (congrArg (m ((c : Thread nD τ).loc main_arg2)) (one_place _ y))
    (congrArg (m ((c : Thread nD τ).loc main_arg3)) (one_place _ y))

end Operands

/-- The kernel's result on any device is the reference's payload of the whole arguments. -/
theorem out_eq (m : (ℓ : Loc Cert.KernelIdeal.nD Cert.KernelIdeal.τ Cert.KernelIdeal.sig) → Buf (Elt Ideal) ℓ)
    (A : Vec Ideal ⟨2, ![4096, 4096]⟩ .fp8e4m3) (B : Vec Ideal ⟨2, ![4096, 8192]⟩ .fp8e4m3) (s t : Vec Ideal ⟨1, ![1]⟩ .f32)
    (hA : ∀ c : Dev Cert.KernelIdeal.nD, m ((c.tc : Thread Cert.KernelIdeal.nD Cert.KernelIdeal.τ).loc Cert.KernelIdeal.main_arg0)
      = Layout.block ⟨2, ![4096, 512]⟩ ⟨2, ![4096, 4096]⟩ 1 8 c A)
    (hB : ∀ c : Dev Cert.KernelIdeal.nD, m ((c.tc : Thread Cert.KernelIdeal.nD Cert.KernelIdeal.τ).loc Cert.KernelIdeal.main_arg1)
      = Layout.block ⟨2, ![512, 8192]⟩ ⟨2, ![4096, 8192]⟩ 0 8 c B)
    (hs : ∀ c : Dev Cert.KernelIdeal.nD, m ((c.tc : Thread Cert.KernelIdeal.nD Cert.KernelIdeal.τ).loc Cert.KernelIdeal.main_arg2) = s)
    (ht : ∀ c : Dev Cert.KernelIdeal.nD, m ((c.tc : Thread Cert.KernelIdeal.nD Cert.KernelIdeal.τ).loc Cert.KernelIdeal.main_arg3) = t)
    (c : Dev Cert.KernelIdeal.nD) (y : (⟨1, ![1]⟩ : Shape).Idx) :
    (inputs m).out c = Cert.ReferenceIdeal.Gen.k0_pay1 (F := Ideal) A B (s y) (t y) := by
  have hx : ∀ (d : Fin 8) (i : Fin 4096) (k : Fin 512), (inputs m).x d (ix2 i k) = A (ix2 i ⟨512 * d.val + k.val, by omega⟩) := by
    intro d i k
    rw [x_whole, hA d]
    refine congrArg A ?_
    funext a; apply Fin.ext
    match a with
    | ⟨0, _⟩ => rfl
    | ⟨1, _⟩ => show d.val * 512 + k.val = 512 * d.val + k.val; omega
  have hw : ∀ (d : Fin 8) (k : Fin 512) (j : Fin 8192), (inputs m).w d (ix2 k j) = B (ix2 ⟨512 * d.val + k.val, by omega⟩ j) := by
    intro d k j
    rw [w_whole, hB d]
    refine congrArg B ?_
    funext a; apply Fin.ext
    match a with
    | ⟨0, _⟩ => show d.val * 512 + k.val = 512 * d.val + k.val; omega
    | ⟨1, _⟩ => rfl
  have hsc : (inputs m).sc c = s y * t y := sc_whole m c s t (hs c) (ht c) y
  funext i
  obtain ⟨i0, i1, rfl⟩ : ∃ (i0 : Fin 4096) (i1 : Fin 8192), i = ix2 i0 i1 := ⟨_, _, eq_ix2 i⟩
  rw [Cert.ReferenceIdeal.Whole.pay_apply A B (s y) (t y) i0 i1, ← sum_blocks]
  have hb : i0.val / 512 < 8 := by omega
  have hp : i1.val / 2048 < 4 := by omega
  have hr : i0.val % 512 < 512 := Nat.mod_lt _ (by decide)
  have hj : i1.val % 2048 < 2048 := Nat.mod_lt _ (by decide)
  have e : (inputs m).out c (ix2 i0 i1) = (inputs m).tile c ⟨i0.val / 512, hb⟩ ⟨i1.val / 2048, hp⟩ (ix2 ⟨i0.val % 512, hr⟩ ⟨i1.val % 2048, hj⟩) := by
    refine congrArg ((inputs m).tile c ⟨i0.val / 512, hb⟩ ⟨i1.val / 2048, hp⟩) ?_
    funext a; apply Fin.ext
    match a with
    | ⟨0, _⟩ => rfl
    | ⟨1, _⟩ => rfl
  rw [e]
  unfold Inputs.tile
  rw [doneOf_apply, val_done, hsc]
  refine congrArg (fun z : EReal => max (z * (s y * t y)) 0) (Finset.sum_congr rfl fun d _ => Finset.sum_congr rfl fun k _ => ?_)
  rw [hx, hw]
  have e0 : (⟨512 * (i0.val / 512) + i0.val % 512, by omega⟩ : Fin 4096) = i0 := Fin.ext (Nat.div_add_mod _ _)
  have e1 : (⟨2048 * (i1.val / 2048) + i1.val % 2048, by omega⟩ : Fin 8192) = i1 := Fin.ext (Nat.div_add_mod _ _)
  exact congrArg₂ (fun a b : EReal => a * b) (congrArg (fun z => A (ix2 z _)) e0) (congrArg (fun z => B (ix2 _ z)) e1)

/-- Both programs, over exact numbers, end with the same result on every device. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨(Cert.ReferenceIdeal.Gen.dats m' 0 0).arrAt 4 Cert.ReferenceIdeal.cfg0.N,
    (θ_run _ _ _).mono (fun r h c => ⟨(h.1 c).2.2.2.2.trans ?_, (h.1 c).1, (h.1 c).2.1, (h.1 c).2.2.1, (h.1 c).2.2.2.1⟩) (run_args (F := Ideal) m g),
    (θ_run _ _ _).mono (fun r h => h 0) (Cert.ReferenceIdeal.Value.run_blocks (F := Ideal) m' g')⟩
  rw [Cert.ReferenceIdeal.Whole.result]
  exact out_eq m _ _ _ _ (fun c => (hagree c).1) (fun c => (hagree c).2.1) (fun c => (hagree c).2.2.1) (fun c => (hagree c).2.2.2) c _

end Cert.Proof

end
-- ==== Proof.lean ====
/- The proof of the five claims: the frames of the kernel, of its ideal program and of the reference; that the ideal
program is the kernel; and that over exact numbers every device ends with the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, same_result⟩

end Cert.Proof

end
